-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000 : Shape := ⟨1, ![5000]⟩
abbrev S_ : Shape := ⟨0, ![]⟩
abbrev S120 : Shape := ⟨1, ![120]⟩
abbrev S5120 : Shape := ⟨1, ![5120]⟩
abbrev S120x4 : Shape := ⟨2, ![120, 4]⟩
abbrev S5120x4 : Shape := ⟨2, ![5120, 4]⟩
abbrev S5120x1 : Shape := ⟨2, ![5120, 1]⟩
abbrev S1x5120 : Shape := ⟨2, ![1, 5120]⟩
abbrev S40x128 : Shape := ⟨2, ![40, 128]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x256 : Shape := ⟨2, ![1, 256]⟩
abbrev S128x256 : Shape := ⟨2, ![128, 256]⟩
abbrev S1x384 : Shape := ⟨2, ![1, 384]⟩
abbrev S128x384 : Shape := ⟨2, ![128, 384]⟩
abbrev S1x512 : Shape := ⟨2, ![1, 512]⟩
abbrev S128x512 : Shape := ⟨2, ![128, 512]⟩
abbrev S1x640 : Shape := ⟨2, ![1, 640]⟩
abbrev S128x640 : Shape := ⟨2, ![128, 640]⟩
abbrev S1x768 : Shape := ⟨2, ![1, 768]⟩
abbrev S128x768 : Shape := ⟨2, ![128, 768]⟩
abbrev S1x896 : Shape := ⟨2, ![1, 896]⟩
abbrev S128x896 : Shape := ⟨2, ![128, 896]⟩
abbrev S1x1024 : Shape := ⟨2, ![1, 1024]⟩
abbrev S128x1024 : Shape := ⟨2, ![128, 1024]⟩
abbrev S1x1152 : Shape := ⟨2, ![1, 1152]⟩
abbrev S128x1152 : Shape := ⟨2, ![128, 1152]⟩
abbrev S1x1280 : Shape := ⟨2, ![1, 1280]⟩
abbrev S128x1280 : Shape := ⟨2, ![128, 1280]⟩
abbrev S1x1408 : Shape := ⟨2, ![1, 1408]⟩
abbrev S128x1408 : Shape := ⟨2, ![128, 1408]⟩
abbrev S1x1536 : Shape := ⟨2, ![1, 1536]⟩
abbrev S128x1536 : Shape := ⟨2, ![128, 1536]⟩
abbrev S1x1664 : Shape := ⟨2, ![1, 1664]⟩
abbrev S128x1664 : Shape := ⟨2, ![128, 1664]⟩
abbrev S1x1792 : Shape := ⟨2, ![1, 1792]⟩
abbrev S128x1792 : Shape := ⟨2, ![128, 1792]⟩
abbrev S1x1920 : Shape := ⟨2, ![1, 1920]⟩
abbrev S128x1920 : Shape := ⟨2, ![128, 1920]⟩
abbrev S1x2048 : Shape := ⟨2, ![1, 2048]⟩
abbrev S128x2048 : Shape := ⟨2, ![128, 2048]⟩
abbrev S1x2176 : Shape := ⟨2, ![1, 2176]⟩
abbrev S128x2176 : Shape := ⟨2, ![128, 2176]⟩
abbrev S1x2304 : Shape := ⟨2, ![1, 2304]⟩
abbrev S128x2304 : Shape := ⟨2, ![128, 2304]⟩
abbrev S1x2432 : Shape := ⟨2, ![1, 2432]⟩
abbrev S128x2432 : Shape := ⟨2, ![128, 2432]⟩
abbrev S1x2560 : Shape := ⟨2, ![1, 2560]⟩
abbrev S128x2560 : Shape := ⟨2, ![128, 2560]⟩
abbrev S1x2688 : Shape := ⟨2, ![1, 2688]⟩
abbrev S128x2688 : Shape := ⟨2, ![128, 2688]⟩
abbrev S1x2816 : Shape := ⟨2, ![1, 2816]⟩
abbrev S128x2816 : Shape := ⟨2, ![128, 2816]⟩
abbrev S1x2944 : Shape := ⟨2, ![1, 2944]⟩
abbrev S128x2944 : Shape := ⟨2, ![128, 2944]⟩
abbrev S1x3072 : Shape := ⟨2, ![1, 3072]⟩
abbrev S128x3072 : Shape := ⟨2, ![128, 3072]⟩
abbrev S1x3200 : Shape := ⟨2, ![1, 3200]⟩
abbrev S128x3200 : Shape := ⟨2, ![128, 3200]⟩
abbrev S1x3328 : Shape := ⟨2, ![1, 3328]⟩
abbrev S128x3328 : Shape := ⟨2, ![128, 3328]⟩
abbrev S1x3456 : Shape := ⟨2, ![1, 3456]⟩
abbrev S128x3456 : Shape := ⟨2, ![128, 3456]⟩
abbrev S1x3584 : Shape := ⟨2, ![1, 3584]⟩
abbrev S128x3584 : Shape := ⟨2, ![128, 3584]⟩
abbrev S1x3712 : Shape := ⟨2, ![1, 3712]⟩
abbrev S128x3712 : Shape := ⟨2, ![128, 3712]⟩
abbrev S1x3840 : Shape := ⟨2, ![1, 3840]⟩
abbrev S128x3840 : Shape := ⟨2, ![128, 3840]⟩
abbrev S1x3968 : Shape := ⟨2, ![1, 3968]⟩
abbrev S128x3968 : Shape := ⟨2, ![128, 3968]⟩
abbrev S1x4096 : Shape := ⟨2, ![1, 4096]⟩
abbrev S128x4096 : Shape := ⟨2, ![128, 4096]⟩
abbrev S1x4224 : Shape := ⟨2, ![1, 4224]⟩
abbrev S128x4224 : Shape := ⟨2, ![128, 4224]⟩
abbrev S1x4352 : Shape := ⟨2, ![1, 4352]⟩
abbrev S128x4352 : Shape := ⟨2, ![128, 4352]⟩
abbrev S1x4480 : Shape := ⟨2, ![1, 4480]⟩
abbrev S128x4480 : Shape := ⟨2, ![128, 4480]⟩
abbrev S1x4608 : Shape := ⟨2, ![1, 4608]⟩
abbrev S128x4608 : Shape := ⟨2, ![128, 4608]⟩
abbrev S1x4736 : Shape := ⟨2, ![1, 4736]⟩
abbrev S128x4736 : Shape := ⟨2, ![128, 4736]⟩
abbrev S1x4864 : Shape := ⟨2, ![1, 4864]⟩
abbrev S128x4864 : Shape := ⟨2, ![128, 4864]⟩
abbrev S1x4992 : Shape := ⟨2, ![1, 4992]⟩
abbrev S128x4992 : Shape := ⟨2, ![128, 4992]⟩
abbrev S128x5120 : Shape := ⟨2, ![128, 5120]⟩

abbrev nBuf : Space → Nat
  | .hbm => 38
  | .vmem => 7
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S_, .f32⟩
  | .hbm, ⟨4, _⟩ => ⟨S120, .f32⟩
  | .hbm, ⟨5, _⟩ => ⟨S5120, .f32⟩
  | .hbm, ⟨6, _⟩ => ⟨S_, .f32⟩
  | .hbm, ⟨7, _⟩ => ⟨S120x4, .f32⟩
  | .hbm, ⟨8, _⟩ => ⟨S5120x4, .f32⟩
  | .hbm, ⟨9, _⟩ => ⟨S5120, .i32⟩
  | .hbm, ⟨10, _⟩ => ⟨S5120x1, .f32⟩
  | .hbm, ⟨11, _⟩ => ⟨S5120, .f32⟩
  | .hbm, ⟨12, _⟩ => ⟨S5120x1, .f32⟩
  | .hbm, ⟨13, _⟩ => ⟨S5120, .f32⟩
  | .hbm, ⟨14, _⟩ => ⟨S5120x1, .f32⟩
  | .hbm, ⟨15, _⟩ => ⟨S5120, .f32⟩
  | .hbm, ⟨16, _⟩ => ⟨S5120x1, .f32⟩
  | .hbm, ⟨17, _⟩ => ⟨S5120, .f32⟩
  | .hbm, ⟨18, _⟩ => ⟨S5120, .f32⟩
  | .hbm, ⟨19, _⟩ => ⟨S5120, .f32⟩
  | .hbm, ⟨20, _⟩ => ⟨S5120, .f32⟩
  | .hbm, ⟨21, _⟩ => ⟨S5120, .f32⟩
  | .hbm, ⟨22, _⟩ => ⟨S5120, .f32⟩
  | .hbm, ⟨23, _⟩ => ⟨S5120, .i32⟩
  | .hbm, ⟨24, _⟩ => ⟨S1x5120, .f32⟩
  | .hbm, ⟨25, _⟩ => ⟨S1x5120, .f32⟩
  | .hbm, ⟨26, _⟩ => ⟨S1x5120, .f32⟩
  | .hbm, ⟨27, _⟩ => ⟨S1x5120, .f32⟩
  | .hbm, ⟨28, _⟩ => ⟨S40x128, .f32⟩
  | .hbm, ⟨29, _⟩ => ⟨S5120, .f32⟩
  | .hbm, ⟨30, _⟩ => ⟨S5120, .i32⟩
  | .hbm, ⟨31, _⟩ => ⟨S5120, .f32⟩
  | .hbm, ⟨32, _⟩ => ⟨S_, .f32⟩
  | .hbm, ⟨33, _⟩ => ⟨S5120, .f32⟩
  | .hbm, ⟨34, _⟩ => ⟨S5120, .i1⟩
  | .hbm, ⟨35, _⟩ => ⟨S5000, .i1⟩
  | .hbm, ⟨36, _⟩ => ⟨S5000, .f32⟩
  | .hbm, ⟨37, _⟩ => ⟨S5000, .f32⟩
  | .local _ .vmem, ⟨0, _⟩ => ⟨S1x5120, .f32⟩
  | .local _ .vmem, ⟨1, _⟩ => ⟨S1x5120, .f32⟩
  | .local _ .vmem, ⟨2, _⟩ => ⟨S1x5120, .f32⟩
  | .local _ .vmem, ⟨3, _⟩ => ⟨S1x5120, .f32⟩
  | .local _ .vmem, ⟨4, _⟩ => ⟨S40x128, .f32⟩
  | .local _ .vmem, ⟨5, _⟩ => ⟨S1x5120, .f32⟩
  | .local _ .vmem, ⟨6, _⟩ => ⟨S1x5120, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (c0_i32 : BitVec 32) : Fin 2 → Nat :=
  let c0_14 : Index := 0#32
  let c128_i32 : BitVec 32 := 128#32
  let v22 : BitVec 32 := Scalar.muli c0_i32 c128_i32
  let v23 : Index := Scalar.indexCast v22
  ![0, v23.toNat]
abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S1 : Shape := ⟨1, ![1]⟩

abbrev nBuf : Space → Nat
  | .hbm => 145
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S5000x1, .f32⟩
  | 16 => ⟨S5000, .f32⟩
  | 17 => ⟨S5000x1, .f32⟩
  | 18 => ⟨S5000, .f32⟩
  | 19 => ⟨S5000, .f32⟩
  | 20 => ⟨S5000x1, .f32⟩
  | 21 => ⟨S5000, .f32⟩
  | 22 => ⟨S5000x1, .f32⟩
  | 23 => ⟨S5000, .f32⟩
  | 24 => ⟨S5000, .f32⟩
  | 25 => ⟨S5000, .f32⟩
  | 26 => ⟨S5000x1, .f32⟩
  | 27 => ⟨S5000, .f32⟩
  | 28 => ⟨S5000x1, .f32⟩
  | 29 => ⟨S5000x1, .f32⟩
  | 30 => ⟨S5000, .f32⟩
  | 31 => ⟨S1x5000, .f32⟩
  | 32 => ⟨S5000x5000, .f32⟩
  | 33 => ⟨S5000x5000, .f32⟩
  | 34 => ⟨S5000x5000, .f32⟩
  | 35 => ⟨S5000x1, .f32⟩
  | 36 => ⟨S5000, .f32⟩
  | 37 => ⟨S5000x1, .f32⟩
  | 38 => ⟨S5000x1, .f32⟩
  | 39 => ⟨S5000, .f32⟩
  | 40 => ⟨S1x5000, .f32⟩
  | 41 => ⟨S5000x5000, .f32⟩
  | 42 => ⟨S5000x5000, .f32⟩
  | 43 => ⟨S5000x5000, .f32⟩
  | 44 => ⟨S5000x1, .f32⟩
  | 45 => ⟨S5000, .f32⟩
  | 46 => ⟨S5000x1, .f32⟩
  | 47 => ⟨S5000x1, .f32⟩
  | 48 => ⟨S5000, .f32⟩
  | 49 => ⟨S1x5000, .f32⟩
  | 50 => ⟨S5000x5000, .f32⟩
  | 51 => ⟨S5000x5000, .f32⟩
  | 52 => ⟨S5000x5000, .f32⟩
  | 53 => ⟨S5000x1, .f32⟩
  | 54 => ⟨S5000, .f32⟩
  | 55 => ⟨S5000x1, .f32⟩
  | 56 => ⟨S5000x1, .f32⟩
  | 57 => ⟨S5000, .f32⟩
  | 58 => ⟨S1x5000, .f32⟩
  | 59 => ⟨S5000x5000, .f32⟩
  | 60 => ⟨S5000x5000, .f32⟩
  | 61 => ⟨S5000x5000, .f32⟩
  | 62 => ⟨S5000x5000, .f32⟩
  | 63 => ⟨S_, .f32⟩
  | 64 => ⟨S5000x5000, .f32⟩
  | 65 => ⟨S5000x5000, .f32⟩
  | 66 => ⟨S5000x5000, .f32⟩
  | 67 => ⟨S_, .f32⟩
  | 68 => ⟨S5000x5000, .f32⟩
  | 69 => ⟨S5000x5000, .f32⟩
  | 70 => ⟨S5000x5000, .f32⟩
  | 71 => ⟨S5000x1, .f32⟩
  | 72 => ⟨S1x5000, .f32⟩
  | 73 => ⟨S5000x5000, .f32⟩
  | 74 => ⟨S5000x5000, .f32⟩
  | 75 => ⟨S5000x5000, .f32⟩
  | 76 => ⟨S5000x5000, .f32⟩
  | 77 => ⟨S_, .f32⟩
  | 78 => ⟨S5000x5000, .f32⟩
  | 79 => ⟨S5000x5000, .f32⟩
  | 80 => ⟨S5000x5000, .f32⟩
  | 81 => ⟨S5000, .i32⟩
  | 82 => ⟨S_, .i1⟩
  | 83 => ⟨S5000, .i1⟩
  | 84 => ⟨S_, .i32⟩
  | 85 => ⟨S_, .i32⟩
  | 86 => ⟨S5000x5000, .f32⟩
  | 87 => ⟨S5000, .i32⟩
  | 88 => ⟨S_, .i32⟩
  | 89 => ⟨S_, .i32⟩
  | 90 => ⟨S5000, .i1⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S5000x1, .f32⟩
  | 110 => ⟨S5000, .f32⟩
  | 111 => ⟨S_, .f32⟩
  | 112 => ⟨S5000, .f32⟩
  | 113 => ⟨S5000, .i1⟩
  | 114 => ⟨S5000, .i1⟩
  | 115 => ⟨S_, .i32⟩
  | 116 => ⟨S5000, .i32⟩
  | 117 => ⟨S5000, .i1⟩
  | 118 => ⟨S5000, .i1⟩
  | 119 => ⟨S_, .i1⟩
  | 120 => ⟨S_, .i1⟩
  | 121 => ⟨S_, .i1⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S5000x4, .f32⟩

abbrev hbmTy0_1 (i : Nat) : BufTy := match i % 128 with
  | 0 => ⟨S1, .i32⟩
  | 1 => ⟨S5000, .i1⟩
  | 2 => ⟨S_, .i32⟩
  | 3 => ⟨S_, .i32⟩
  | 4 => ⟨S_, .i1⟩
  | 5 => ⟨S5000, .i1⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000, .i1⟩
  | 15 => ⟨S5000, .f32⟩
  | 16 => ⟨S5000, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_1 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_2 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_c_3 : Ref sig .tc := ⟨.hbm, 82, rfl⟩
abbrev main_v73 : Ref sig .tc := ⟨.hbm, 83, rfl⟩
abbrev main_c_4 : Ref sig .tc := ⟨.hbm, 84, rfl⟩
abbrev main_c_5 : Ref sig .tc := ⟨.hbm, 85, rfl⟩
abbrev main_v74_0 : Ref sig .tc := ⟨.hbm, 86, rfl⟩
abbrev main_v74_1 : Ref sig .tc := ⟨.hbm, 87, rfl⟩
abbrev main_v74_2 : Ref sig .tc := ⟨.hbm, 88, rfl⟩
abbrev main_v74_3 : Ref sig .tc := ⟨.hbm, 89, rfl⟩
abbrev main_v74_4 : Ref sig .tc := ⟨.hbm, 90, rfl⟩
abbrev main_while0c_c_13 : Ref sig .tc := ⟨.hbm, 91, rfl⟩
abbrev main_while0c_v85 : Ref sig .tc := ⟨.hbm, 92, rfl⟩
abbrev main_while0b_c_13 : Ref sig .tc := ⟨.hbm, 93, rfl⟩
abbrev main_while0b_v85 : Ref sig .tc := ⟨.hbm, 94, rfl⟩
abbrev main_while0b_v86 : Ref sig .tc := ⟨.hbm, 95, rfl⟩
abbrev main_while0b_c_14 : Ref sig .tc := ⟨.hbm, 96, rfl⟩
abbrev main_while0b_c_15 : Ref sig .tc := ⟨.hbm, 97, rfl⟩
abbrev main_while0b_v87 : Ref sig .tc := ⟨.hbm, 98, rfl⟩
abbrev main_while0b_c_16 : Ref sig .tc := ⟨.hbm, 99, rfl⟩
abbrev main_while0b_c_17 : Ref sig .tc := ⟨.hbm, 100, rfl⟩
abbrev main_while0b_v88 : Ref sig .tc := ⟨.hbm, 101, rfl⟩
abbrev main_while0b_c_18 : Ref sig .tc := ⟨.hbm, 102, rfl⟩
abbrev main_while0b_v89 : Ref sig .tc := ⟨.hbm, 103, rfl⟩
abbrev main_while0b_c_19 : Ref sig .tc := ⟨.hbm, 104, rfl⟩
abbrev main_while0b_v90 : Ref sig .tc := ⟨.hbm, 105, rfl⟩
abbrev main_while0b_c_20 : Ref sig .tc := ⟨.hbm, 106, rfl⟩
abbrev main_while0b_v91 : Ref sig .tc := ⟨.hbm, 107, rfl⟩
abbrev main_while0b_v92 : Ref sig .tc := ⟨.hbm, 108, rfl⟩
abbrev main_while0b_v93 : Ref sig .tc := ⟨.hbm, 109, rfl⟩
abbrev main_while0b_v94 : Ref sig .tc := ⟨.hbm, 110, rfl⟩
abbrev main_while0b_cst_21 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_c_22 : Ref sig .tc := ⟨.hbm, 119, rfl⟩
abbrev main_while0b_v102 : Ref sig .tc := ⟨.hbm, 120, rfl⟩
abbrev main_while0b_v103 : Ref sig .tc := ⟨.hbm, 121, rfl⟩
abbrev main_while0b_c_23 : Ref sig .tc := ⟨.hbm, 122, rfl⟩
abbrev main_while0b_v104 : Ref sig .tc := ⟨.hbm, 123, rfl⟩
abbrev main_while0b_c_24 : Ref sig .tc := ⟨.hbm, 124, rfl⟩
abbrev main_while0b_v105 : Ref sig .tc := ⟨.hbm, 125, rfl⟩
abbrev main_while0b_v106 : Ref sig .tc := ⟨.hbm, 126, rfl⟩
abbrev main_while0b_v107 : Ref sig .tc := ⟨.hbm, 127, rfl⟩
abbrev main_while0b_v108 : Ref sig .tc := ⟨.hbm, 128, rfl⟩
abbrev main_while0b_v109 : Ref sig .tc := ⟨.hbm, 129, rfl⟩
abbrev main_while0b_c_25 : Ref sig .tc := ⟨.hbm, 130, rfl⟩
abbrev main_while0b_v110 : Ref sig .tc := ⟨.hbm, 131, rfl⟩
abbrev main_c_6 : Ref sig .tc := ⟨.hbm, 132, rfl⟩
abbrev main_v75 : Ref sig .tc := ⟨.hbm, 133, rfl⟩
abbrev main_c_7 : Ref sig .tc := ⟨.hbm, 134, rfl⟩
abbrev main_v76 : Ref sig .tc := ⟨.hbm, 135, rfl⟩
abbrev main_v77 : Ref sig .tc := ⟨.hbm, 136, rfl⟩
abbrev main_c_8 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩

abbrev nD : Nat := 1
abbrev τ : Topo := Topo.v7x

variable {F : FTy → Type} [FloatOps F]

abbrev main_while0_count : Scf.Loop 32 := ⟨0#32, 5000#32, 1#32⟩
-- ==== Proof.K.Program.lean ====
/-
  The kernel body as a chain of forty equal blocks.

  The printed body writes its forty blocks out one after the other, cut into windows of sixty statements. Here one block
  is written ONCE, over the block's number `i` and the length `L` of the strip of boxes before its end, and the body is the
  chain of the forty (`body_eq`): first the two buffers are cleared and the areas stored, then block after block.
  A block's values are named functions of what it loads:
  `tri` is the block's own suppression matrix, `freeRow` says which of its boxes no earlier block suppresses, `stepRow` is
  one pass of the fixpoint inside the block, and `again` the test that another pass is wanted.
-/
module

public import proofs.«01_k».proof.Proof.Gen.KernelIdeal
public import proofs.«01_k».proof.Proof.Gen.KernelIdeal.Points

@[expose] public section

noncomputable section

namespace Cert.Proof.K

open Cert.KernelIdeal Cert.KernelIdeal.Gen
open Idealize.ShloMosaic Idealize.ShloMosaic.TcCoe
open Idealize.SL.Sem

variable {F : FTy → Type} [FloatOps F]

/-- One row of `L` entries. -/
abbrev row (L : Nat) : Shape := ⟨2, ![1, L]⟩
/-- A block's 128 boxes against `L` boxes. -/
abbrev mat (L : Nat) : Shape := ⟨2, ![128, L]⟩

/-- What the operations on a strip of length `L` ask of `L`. -/
structure Fits (L : Nat) : Prop where
  pos : 0 < (row L).numel
  inb : ∀ a, (![0, 0] : Fin 2 → Nat) a + (row L).size a ≤ S1x5120.size a
  cast : (row L).ShapeCasts (row L)
  bcol : S128x1.Broadcasts (mat L)
  brow : (row L).Broadcasts (mat L)
  red : (mat L).Reduces [1] S128

/-- The areas of a row of boxes. -/
def areaRow {s : Shape} (x1 y1 x2 y2 : FVec F s .f32) : FVec F s .f32 := mulf (subf x2 x1) (subf y2 y1)

/-- A row turned into a column. -/
def col (v : FVec F S1x128 .f32) : FVec F S128x1 .f32 := transpose S128x1 [1, 0] v transposes_S1x128_p1_0_S128x1

/-- The overlap area of each of the block's boxes (columns) with each of the strip's (rows). -/
def interM (L : Nat) (h : Fits L) (x1 y1 x2 y2 : FVec F S128x1 .f32) (sx1 sy1 sx2 sy2 : FVec F (row L) .f32) :
    FVec F (mat L) .f32 :=
  mulf
    (maximumf (subf (minimumf (broadcastTo (mat L) x2 h.bcol) (broadcastTo (mat L) sx2 h.brow))
        (maximumf (broadcastTo (mat L) x1 h.bcol) (broadcastTo (mat L) sx1 h.brow)))
      (broadcast (mat L) (Scalar.ofBits .f32 0x00000000#32)))
    (maximumf (subf (minimumf (broadcastTo (mat L) y2 h.bcol) (broadcastTo (mat L) sy2 h.brow))
        (maximumf (broadcastTo (mat L) y1 h.bcol) (broadcastTo (mat L) sy1 h.brow)))
      (broadcast (mat L) (Scalar.ofBits .f32 0x00000000#32)))

/-- Whether the ratio of an overlap to the rest of the two areas `a` (their sum) is above one half. -/
def overM (L : Nat) (a t : FVec F (mat L) .f32) : IVec (mat L) 1 :=
  cmpf .ogt (divf t (addf (subf a t) (broadcast (mat L) (Scalar.ofBits .f32 0x3089705F#32))))
    (broadcast (mat L) (Scalar.ofBits .f32 0x3F000000#32))

/-- The block's boxes that no kept box of the strip suppresses, as ones in a row of zeros. -/
def freeRow (L : Nat) (h : Fits L) (x1 y1 x2 y2 : FVec F S1x128 .f32) (sx1 sy1 sx2 sy2 : FVec F (row L) .f32)
    (sar : FVec F (row L) .f32) (kr : FVec F (row L) .f32) : FVec F S1x128 .f32 :=
  transpose S1x128 [1, 0]
    (sitofp .f32 (extui 32 (cmpf .oeq
      (shapeCast S128x1
        (multiReduction .maximumf [1] S128
          (select
            (overM L (addf (broadcastTo (mat L) sar h.brow) (broadcastTo (mat L) (col (areaRow x1 y1 x2 y2)) h.bcol))
              (interM L h (col x1) (col y1) (col x2) (col y2) sx1 sy1 sx2 sy2))
            (broadcastTo (mat L) (shapeCast (row L) kr h.cast) h.brow)
            (broadcast (mat L) (Scalar.ofBits .f32 0x00000000#32)))
          0xFF800000#32 h.red (.inl rfl) rfl)
        shapeCasts_S128_S128x1)
      (broadcast S128x1 (Scalar.ofBits .f32 0x00000000#32))) natLt_1_32))
    transposes_S128x1_p1_0_S1x128

/-- The facts of a strip of one block's length. -/
theorem fits128 : Fits 128 :=
  ⟨h_S1x128, inb_S1x5120_S1x128_0_0, shapeCasts_S1x128_S1x128, broadcasts_S128x1_S128x128, broadcasts_S1x128_S128x128,
    reduces_S128x128_S128⟩

/-- The block's own suppression matrix: entry `(j, c)` is one when box `j` comes before box `c` and overlaps it. -/
def tri (x1 y1 x2 y2 : FVec F S1x128 .f32) : FVec F S128x128 .f32 :=
  select
    (andi
      (overM 128 (addf (broadcastTo (mat 128) (col (areaRow x1 y1 x2 y2)) broadcasts_S128x1_S128x128)
          (broadcastTo (mat 128) (areaRow x1 y1 x2 y2) broadcasts_S1x128_S128x128))
        (interM 128 fits128 (col x1) (col y1) (col x2) (col y2) x1 y1 x2 y2))
      (cmpi .slt (iota .tc S128x128 32 [0] iota_S128x128_d0_w32) (iota .tc S128x128 32 [1] iota_S128x128_d1_w32)))
    (broadcast S128x128 (Scalar.ofBits .f32 0x3F800000#32)) (broadcast S128x128 (Scalar.ofBits .f32 0x00000000#32))

/-- One pass: a free box stays when no box of `k` suppresses it. -/
def stepRow (tf : FVec F S128x128 .f32) (fr k : FVec F S1x128 .f32) : FVec F S1x128 .f32 :=
  mulf fr (sitofp .f32 (extui 32 (cmpf .oeq
    (matmul dot_S1x128_S128x128_S1x128_1_0_0_1_n_n none k tf (constant S1x128 .f32 0x00000000#32))
    (broadcast S1x128 (Scalar.ofBits .f32 0x00000000#32))) natLt_1_32))

/-- Whether the two rows differ anywhere. -/
def again (k' k : FVec F S1x128 .f32) : BitVec 1 :=
  Scalar.cmpf .ogt
    (extractAt ![0, 0, 0]
      (shapeCast S1x1x1
        (multiReduction .maximumf [1, 2] S1
          (shapeCast S1x1x128
            (select (cmpf .one k' k) (broadcast S1x128 (Scalar.ofBits .f32 0x3F800000#32 : F .f32))
              (broadcast S1x128 (Scalar.ofBits .f32 0x00000000#32)))
            shapeCasts_S1x128_S1x1x128)
          0xFF800000#32 reduces_S1x1x128_S1 (.inl rfl) rfl)
        shapeCasts_S1_S1x1x1)
      inpos_S1x1x1_p0_0_0)
    (Scalar.ofBits .f32 0x00000000#32 : F .f32)

/-- The loop's result: the row it settled on, the row before, the last test. -/
abbrev Res (F : FTy → Type) : Type := FVec F S1x128 .f32 × FVec F S1x128 .f32 × BitVec 1

/-- Entering block `i`'s loop: each block's loop has its own label. -/
def loop : Fin 40 → FVec F S128x128 .f32 → FVec F S1x128 .f32 → FVec F S1x128 .f32 → FVec F S1x128 .f32 → BitVec 1 →
    Prog (TpuEff nD τ sig (Elt F) (Λ₀ F) .tc) (Res F)
  | 0 => fun tf fr a b c => Prog.lift (.call (1 : (Λ₀ F).Label) ⟨tf, fr, a, b, c⟩)
  | 1 => fun tf fr a b c => Prog.lift (.call (2 : (Λ₀ F).Label) ⟨tf, fr, a, b, c⟩)
  | 2 => fun tf fr a b c => Prog.lift (.call (3 : (Λ₀ F).Label) ⟨tf, fr, a, b, c⟩)
  | 3 => fun tf fr a b c => Prog.lift (.call (4 : (Λ₀ F).Label) ⟨tf, fr, a, b, c⟩)
  | 4 => fun tf fr a b c => Prog.lift (.call (5 : (Λ₀ F).Label) ⟨tf, fr, a, b, c⟩)
  | 5 => fun tf fr a b c => Prog.lift (.call (6 : (Λ₀ F).Label) ⟨tf, fr, a, b, c⟩)
  | 6 => fun tf fr a b c => Prog.lift (.call (7 : (Λ₀ F).Label) ⟨tf, fr, a, b, c⟩)
  | 7 => fun tf fr a b c => Prog.lift (.call (8 : (Λ₀ F).Label) ⟨tf, fr, a, b, c⟩)
  | 8 => fun tf fr a b c => Prog.lift (.call (9 : (Λ₀ F).Label) ⟨tf, fr, a, b, c⟩)
  | 9 => fun tf fr a b c => Prog.lift (.call (10 : (Λ₀ F).Label) ⟨tf, fr, a, b, c⟩)
  | 10 => fun tf fr a b c => Prog.lift (.call (11 : (Λ₀ F).Label) ⟨tf, fr, a, b, c⟩)
  | 11 => fun tf fr a b c => Prog.lift (.call (12 : (Λ₀ F).Label) ⟨tf, fr, a, b, c⟩)
  | 12 => fun tf fr a b c => Prog.lift (.call (13 : (Λ₀ F).Label) ⟨tf, fr, a, b, c⟩)
  | 13 => fun tf fr a b c => Prog.lift (.call (14 : (Λ₀ F).Label) ⟨tf, fr, a, b, c⟩)
  | 14 => fun tf fr a b c => Prog.lift (.call (15 : (Λ₀ F).Label) ⟨tf, fr, a, b, c⟩)
  | 15 => fun tf fr a b c => Prog.lift (.call (16 : (Λ₀ F).Label) ⟨tf, fr, a, b, c⟩)
  | 16 => fun tf fr a b c => Prog.lift (.call (17 : (Λ₀ F).Label) ⟨tf, fr, a, b, c⟩)
  | 17 => fun tf fr a b c => Prog.lift (.call (18 : (Λ₀ F).Label) ⟨tf, fr, a, b, c⟩)
  | 18 => fun tf fr a b c => Prog.lift (.call (19 : (Λ₀ F).Label) ⟨tf, fr, a, b, c⟩)
  | 19 => fun tf fr a b c => Prog.lift (.call (20 : (Λ₀ F).Label) ⟨tf, fr, a, b, c⟩)
  | 20 => fun tf fr a b c => Prog.lift (.call (21 : (Λ₀ F).Label) ⟨tf, fr, a, b, c⟩)
  | 21 => fun tf fr a b c => Prog.lift (.call (22 : (Λ₀ F).Label) ⟨tf, fr, a, b, c⟩)
  | 22 => fun tf fr a b c => Prog.lift (.call (23 : (Λ₀ F).Label) ⟨tf, fr, a, b, c⟩)
  | 23 => fun tf fr a b c => Prog.lift (.call (24 : (Λ₀ F).Label) ⟨tf, fr, a, b, c⟩)
  | 24 => fun tf fr a b c => Prog.lift (.call (25 : (Λ₀ F).Label) ⟨tf, fr, a, b, c⟩)
  | 25 => fun tf fr a b c => Prog.lift (.call (26 : (Λ₀ F).Label) ⟨tf, fr, a, b, c⟩)
  | 26 => fun tf fr a b c => Prog.lift (.call (27 : (Λ₀ F).Label) ⟨tf, fr, a, b, c⟩)
  | 27 => fun tf fr a b c => Prog.lift (.call (28 : (Λ₀ F).Label) ⟨tf, fr, a, b, c⟩)
  | 28 => fun tf fr a b c => Prog.lift (.call (29 : (Λ₀ F).Label) ⟨tf, fr, a, b, c⟩)
  | 29 => fun tf fr a b c => Prog.lift (.call (30 : (Λ₀ F).Label) ⟨tf, fr, a, b, c⟩)
  | 30 => fun tf fr a b c => Prog.lift (.call (31 : (Λ₀ F).Label) ⟨tf, fr, a, b, c⟩)
  | 31 => fun tf fr a b c => Prog.lift (.call (32 : (Λ₀ F).Label) ⟨tf, fr, a, b, c⟩)
  | 32 => fun tf fr a b c => Prog.lift (.call (33 : (Λ₀ F).Label) ⟨tf, fr, a, b, c⟩)
  | 33 => fun tf fr a b c => Prog.lift (.call (34 : (Λ₀ F).Label) ⟨tf, fr, a, b, c⟩)
  | 34 => fun tf fr a b c => Prog.lift (.call (35 : (Λ₀ F).Label) ⟨tf, fr, a, b, c⟩)
  | 35 => fun tf fr a b c => Prog.lift (.call (36 : (Λ₀ F).Label) ⟨tf, fr, a, b, c⟩)
  | 36 => fun tf fr a b c => Prog.lift (.call (37 : (Λ₀ F).Label) ⟨tf, fr, a, b, c⟩)
  | 37 => fun tf fr a b c => Prog.lift (.call (38 : (Λ₀ F).Label) ⟨tf, fr, a, b, c⟩)
  | 38 => fun tf fr a b c => Prog.lift (.call (39 : (Λ₀ F).Label) ⟨tf, fr, a, b, c⟩)
  | 39 => fun tf fr a b c => Prog.lift (.call (40 : (Λ₀ F).Label) ⟨tf, fr, a, b, c⟩)
  | ⟨_ + 40, h⟩ => absurd h (Nat.not_lt.2 (Nat.le_add_left _ _))

section Body

variable (arg0 : Memref sig .tc .vmem S1x5120 .f32) (arg1 : Memref sig .tc .vmem S1x5120 .f32)
  (arg2 : Memref sig .tc .vmem S1x5120 .f32) (arg3 : Memref sig .tc .vmem S1x5120 .f32)
  (arg4 : Memref sig .tc .vmem S40x128 .f32) (arg5 : Memref sig .tc .vmem S1x5120 .f32)
  (arg6 : Memref sig .tc .vmem S1x5120 .f32)

/-- Load block `i` of a row buffer. -/
def loadBlk (m : Memref sig .tc .vmem S1x5120 .f32) (i : Fin 40) :
    Prog (TpuEff nD τ sig (Elt F) (Λ₀ F) .tc) (Vec F S1x128 .f32) :=
  Prog.lift (.load m (Rect.unit (s := S1x5120) (k0_off1 (BitVec.ofNat 32 i.val)) S1x128.size (k0_off1_inb i)).toLoadRect
    (View.loadsAt_vmem h_S1x128))

/-- Load the first `L` entries of a row buffer. -/
def loadStrip (m : Memref sig .tc .vmem S1x5120 .f32) (L : Nat) (h : Fits L) :
    Prog (TpuEff nD τ sig (Elt F) (Λ₀ F) .tc) (Vec F (row L) .f32) :=
  Prog.lift (.load m (Rect.unit (s := S1x5120) ![0, 0] (row L).size h.inb).toLoadRect (View.loadsAt_vmem h.pos))

/-- Row `i` of the result lies inside it. -/
theorem out_inb (i : Fin 40) : ∀ a, (![i.val, 0] : Fin 2 → Nat) a + S1x128.size a ≤ S40x128.size a := by
  intro a
  fin_cases a
  · show i.val + 1 ≤ 40
    have := i.isLt; omega
  · show 0 + 128 ≤ 128
    omega

/-- Block `i`: its boxes against the strip of the first `L`, the fixpoint within it, its decisions stored. -/
def block (i : Fin 40) (L : Nat) (h : Fits L) : Prog (TpuEff nD τ sig (Elt F) (Λ₀ F) .tc) PUnit := do
  let bx1 : Vec F S1x128 .f32 ← loadBlk arg0 i
  let by1 : Vec F S1x128 .f32 ← loadBlk arg1 i
  let bx2 : Vec F S1x128 .f32 ← loadBlk arg2 i
  let by2 : Vec F S1x128 .f32 ← loadBlk arg3 i
  let sx1 : Vec F (row L) .f32 ← loadStrip arg0 L h
  let sy1 : Vec F (row L) .f32 ← loadStrip arg1 L h
  let sx2 : Vec F (row L) .f32 ← loadStrip arg2 L h
  let sy2 : Vec F (row L) .f32 ← loadStrip arg3 L h
  let sar : Vec F (row L) .f32 ← loadStrip arg5 L h
  let kr : Vec F (row L) .f32 ← loadStrip arg6 L h
  have x1 : FVec F S1x128 .f32 := shapeCast S1x128 bx1 shapeCasts_S1x128_S1x128
  have y1 : FVec F S1x128 .f32 := shapeCast S1x128 by1 shapeCasts_S1x128_S1x128
  have x2 : FVec F S1x128 .f32 := shapeCast S1x128 bx2 shapeCasts_S1x128_S1x128
  have y2 : FVec F S1x128 .f32 := shapeCast S1x128 by2 shapeCasts_S1x128_S1x128
  have tf : FVec F S128x128 .f32 := tri x1 y1 x2 y2
  have fr : FVec F S1x128 .f32 := freeRow L h x1 y1 x2 y2 (shapeCast (row L) sx1 h.cast) (shapeCast (row L) sy1 h.cast)
    (shapeCast (row L) sx2 h.cast) (shapeCast (row L) sy2 h.cast) sar kr
  let r : Res F ← loop i tf fr (stepRow tf fr fr) fr (again (stepRow tf fr fr) fr)
  let _ : Vec F S1x128 .f32 ← Prog.lift (.load arg4 (Rect.unit (s := S40x128) ![i.val, 0] S1x128.size (out_inb i)).toLoadRect
    (View.loadsAt_vmem h_S1x128))
  Prog.lift (.store arg4 (Rect.unit (s := S40x128) ![i.val, 0] S1x128.size (out_inb i)) r.1 Finset.univ
    (View.stores_vmem_bits_univ h_S1x128 rfl) (.inl rfl))
  let _ : Vec F S1x128 .f32 ← loadBlk arg6 i
  Prog.lift (.store arg6 (Rect.unit (s := S1x5120) (k0_off1 (BitVec.ofNat 32 i.val)) S1x128.size (k0_off1_inb i))
    (shapeCast S1x128 r.1 shapeCasts_S1x128_S1x128) Finset.univ
    (View.stores_vmem_bits_univ h_S1x128 rfl) (.inl rfl))

/-- Load a whole row buffer. -/
def loadAll (m : Memref sig .tc .vmem S1x5120 .f32) : Prog (TpuEff nD τ sig (Elt F) (Λ₀ F) .tc) (Vec F S1x5120 .f32) :=
  Prog.lift (.load m (Rect.unit (s := S1x5120) ![0, 0] S1x5120.size inb_S1x5120_S1x5120_0_0).toLoadRect
    (View.loadsAt_vmem h_S1x5120))

/-- Store a whole row buffer. -/
def storeAll (m : Memref sig .tc .vmem S1x5120 .f32) (v : FVec F S1x5120 .f32) :
    Prog (TpuEff nD τ sig (Elt F) (Λ₀ F) .tc) PUnit :=
  Prog.lift (.store m (Rect.unit (s := S1x5120) ![0, 0] S1x5120.size inb_S1x5120_S1x5120_0_0) v Finset.univ
    (View.stores_vmem_bits_univ h_S1x5120 rfl) (.inl rfl))

/-- Before the blocks: the result and the kept row cleared, the areas stored. -/
def prelude : Prog (TpuEff nD τ sig (Elt F) (Λ₀ F) .tc) PUnit := do
  let _ : Vec F S40x128 .f32 ← Prog.lift (.load arg4 (Rect.unit (s := S40x128) ![0, 0] S40x128.size inb_S40x128_S40x128_0_0).toLoadRect
    (View.loadsAt_vmem h_S40x128))
  Prog.lift (.store arg4 (Rect.unit (s := S40x128) ![0, 0] S40x128.size inb_S40x128_S40x128_0_0)
    (broadcast S40x128 (Scalar.ofBits .f32 0x00000000#32)) Finset.univ (View.stores_vmem_bits_univ h_S40x128 rfl) (.inl rfl))
  let _ : Vec F S1x5120 .f32 ← loadAll arg6
  storeAll arg6 (shapeCast S1x5120 (broadcast S1x5120 (Scalar.ofBits .f32 0x00000000#32)) shapeCasts_S1x5120_S1x5120)
  let x2 : Vec F S1x5120 .f32 ← loadAll arg2
  let x1 : Vec F S1x5120 .f32 ← loadAll arg0
  let y2 : Vec F S1x5120 .f32 ← loadAll arg3
  let y1 : Vec F S1x5120 .f32 ← loadAll arg1
  let _ : Vec F S1x5120 .f32 ← loadAll arg5
  storeAll arg5 (shapeCast S1x5120 (areaRow (shapeCast S1x5120 x1 shapeCasts_S1x5120_S1x5120)
    (shapeCast S1x5120 y1 shapeCasts_S1x5120_S1x5120) (shapeCast S1x5120 x2 shapeCasts_S1x5120_S1x5120)
    (shapeCast S1x5120 y2 shapeCasts_S1x5120_S1x5120)) shapeCasts_S1x5120_S1x5120)

end Body

end Cert.Proof.K

end
-- ==== Proof.Greedy.lean ====
/-
  The problem's mathematics: which boxes overlap too much, and which of a sorted list of boxes the greedy rule keeps.
-/
module

public import Idealize.ShloMosaic.PureOps.Ideal

@[expose] public section

noncomputable section

namespace Cert.Proof

open Idealize.ShloMosaic

/-- A box's area, from its corners. -/
def area (x1 y1 x2 y2 : EReal) : EReal := (x2 - x1) * (y2 - y1)

/-- Box `a` overlaps box `b` by more than the threshold: the ratio of the common area to the area they cover together,
    kept off zero by a small constant, is above one half. -/
def Hits (ax1 ay1 ax2 ay2 bx1 by1 bx2 by2 : EReal) : Prop :=
  Ideal.ofBits FTy.f32 1056964608#32 <
    Ideal.div (max (min ax2 bx2 - max ax1 bx1) 0 * max (min ay2 by2 - max ay1 by1) 0)
      ((ax2 - ax1) * (ay2 - ay1) + (bx2 - bx1) * (by2 - by1)
        - max (min ax2 bx2 - max ax1 bx1) 0 * max (min ay2 by2 - max ay1 by1) 0 + Ideal.ofBits FTy.f32 814313567#32)

instance (ax1 ay1 ax2 ay2 bx1 by1 bx2 by2 : EReal) : Decidable (Hits ax1 ay1 ax2 ay2 bx1 by1 bx2 by2) :=
  Classical.propDecidable _

/-- The greedy rule over boxes in order: box `c` is kept unless a kept box before it suppresses it. -/
def Kept (R : ℕ → ℕ → Prop) (c : ℕ) : Prop := ∀ j, (h : j < c) → Kept R j → ¬R j c
termination_by c

theorem kept_iff (R : ℕ → ℕ → Prop) (c : ℕ) : Kept R c ↔ ∀ j, j < c → Kept R j → ¬R j c := by
  rw [Kept]

/-- The greedy rule is settled by its own equation: a predicate that meets it below `n` is the greedy choice there. -/
theorem kept_unique (R : ℕ → ℕ → Prop) (n : ℕ) (P : ℕ → Prop)
    (hP : ∀ c, c < n → (P c ↔ ∀ j, j < c → P j → ¬R j c)) : ∀ c, c < n → (P c ↔ Kept R c) := by
  intro c
  induction c using Nat.strong_induction_on with
  | _ c ih =>
    intro hc
    rw [hP c hc, kept_iff]
    exact forall_congr' fun j => forall_congr' fun hj => by rw [ih j hj (hj.trans hc)]

/-- Two relations that agree below `n` keep the same boxes there. -/
theorem kept_congr (R R' : ℕ → ℕ → Prop) (n : ℕ) (h : ∀ j c, j < c → c < n → (R j c ↔ R' j c)) :
    ∀ c, c < n → (Kept R c ↔ Kept R' c) :=
  kept_unique R' n (Kept R) fun c hc => by
    rw [kept_iff]
    exact forall_congr' fun j => forall_congr' fun hj => by rw [h j c hj hc]

end Cert.Proof

end
-- ==== Proof.K.Values.lean ====
/-
  A block's values over the extended reals, entry by entry: the suppression matrix and the free row are the overlap test
  `Hits`, a pass is a product with a zero-or-one test, and the loop's test says whether two rows differ.
-/
module

public import proofs.«01_k».proof.Proof.K.Program
public import proofs.«01_k».proof.Proof.Greedy
public import Idealize.ShloMosaic.Lib.Pointwise

@[expose] public section

noncomputable section

namespace Cert.Proof.K

open Cert.KernelIdeal Cert.KernelIdeal.Gen Cert.Proof
open Idealize.ShloMosaic

set_option maxRecDepth 16384

/-- A strip's row repeated down a block's boxes. -/
theorem brow_eq {L : Nat} (h : Fits L) (v : FVec Ideal (row L) .f32) :
    broadcastTo (mat L) v h.brow = fun i => v (ix2 0 (i 1)) := by
  funext i
  unfold broadcastTo
  congr 1
  funext a
  fin_cases a
  · exact Subsingleton.elim (α := Fin 1) _ _
  · apply Fin.ext
    have hi : (i 1).val < L := (i 1).isLt
    by_cases hL : L = 1
    · have : (i 1).val = 0 := by omega
      simp [hL, ix2, this]
    · simp [hL, ix2]

/-- The word of a truth value, converted, is one or zero. -/
theorem sitofp_ofBool (p : Prop) [Decidable p] :
    FloatOps.sitofp (F := Ideal) .f32 (BitVec.setWidth 32 (BitVec.ofBool (decide p))) = if p then (1 : EReal) else 0 := by
  by_cases h : p
  · simp only [h, decide_true, ↓reduceIte]
    show (((BitVec.setWidth 32 (BitVec.ofBool true)).toInt : ℝ) : EReal) = 1
    rw [show (BitVec.setWidth 32 (BitVec.ofBool true)).toInt = 1 from by decide]
    norm_num
  · simp only [h, decide_false]
    show (((BitVec.setWidth 32 (BitVec.ofBool false)).toInt : ℝ) : EReal) = _
    rw [show (BitVec.setWidth 32 (BitVec.ofBool false)).toInt = 0 from by decide]
    norm_num

/-- The pattern `0xFF800000` is minus infinity. -/
theorem ofBits_neg_inf : Ideal.ofBits FTy.f32 4286578688#32 = ⊥ := by
  simp [Ideal.ofBits, Ideal.ieee]

/-- A pass at an entry: the free entry, if nothing of `k` suppresses it. -/
theorem stepRow_apply (tf : FVec Ideal S128x128 .f32) (fr k : FVec Ideal S1x128 .f32) (c : Fin 128) :
    stepRow tf fr k (ix2 0 c)
      = fr (ix2 0 c) * (if ∑ j : Fin 128, k (ix2 0 j) * tf (ix2 j c) = 0 then 1 else 0) := by
  pointwise [stepRow]
  rw [sitofp_ofBool]

/-- The order test of two lane numbers. -/
theorem slt_lane (j c : Fin 128) :
    IntOp.cmpi CmpIPredicate.slt (BitVec.ofNat 32 j.val) (BitVec.ofNat 32 c.val) = BitVec.ofBool (decide (j < c)) := by
  have hj := j.isLt
  have hc := c.isLt
  have : (BitVec.ofNat 32 j.val).slt (BitVec.ofNat 32 c.val) = decide (j < c) := by
    have e : ∀ n, n < 128 → (BitVec.ofNat 32 n).toInt = n := fun n hn => by
      rw [BitVec.toInt_eq_toNat_of_lt] <;> rw [BitVec.toNat_ofNat] <;> omega
    unfold BitVec.slt
    rw [e _ hj, e _ hc]
    exact decide_eq_decide.mpr (by rw [Fin.lt_def]; exact Nat.cast_lt)
  simp [IntOp.cmpi, this]

/-- The suppression matrix at an entry. -/
theorem tri_apply (x1 y1 x2 y2 : FVec Ideal S1x128 .f32) (j c : Fin 128) :
    tri x1 y1 x2 y2 (ix2 j c)
      = if Hits (x1 (ix2 0 j)) (y1 (ix2 0 j)) (x2 (ix2 0 j)) (y2 (ix2 0 j))
          (x1 (ix2 0 c)) (y1 (ix2 0 c)) (x2 (ix2 0 c)) (y2 (ix2 0 c)) ∧ j < c then 1 else 0 := by
  pointwise [tri, overM, interM, col, areaRow, mat]
  rw [slt_lane]
  unfold Hits
  split_ifs with h
  · rw [decide_eq_true h.1, decide_eq_true h.2]; rfl
  · by_cases h1 : j < c
    · rw [decide_eq_false fun h2 => h ⟨h2, h1⟩, decide_eq_true h1]; rfl
    · rw [decide_eq_false h1, show IntOp.andi _ (BitVec.ofBool false) = 0#1 from by
        simp [IntOp.andi]]; rfl

/-- A running maximum from minus infinity of nonnegative terms is zero exactly when every term is. -/
theorem fold_max_eq_zero {n : Nat} (hn : 0 < n) (f : Fin n → EReal) (hf : ∀ i, 0 ≤ f i) :
    Finset.fold max ⊥ f Finset.univ = 0 ↔ ∀ i, f i = 0 := by
  constructor
  · intro h i
    refine le_antisymm ?_ (hf i)
    rw [← h]
    exact Finset.le_fold_max _ |>.mpr (.inr ⟨i, Finset.mem_univ _, le_rfl⟩)
  · intro h
    refine le_antisymm (Finset.fold_max_le _ |>.mpr ⟨bot_le, fun i _ => (h i).le⟩) ?_
    exact Finset.le_fold_max _ |>.mpr (.inr ⟨⟨0, hn⟩, Finset.mem_univ _, hf _⟩)

theorem freeRow_apply (L : Nat) (hL : 0 < L) (h : Fits L) (x1 y1 x2 y2 : FVec Ideal S1x128 .f32)
    (sx1 sy1 sx2 sy2 : FVec Ideal (row L) .f32)
    (sar : FVec Ideal (row L) .f32) (kr : FVec Ideal (row L) .f32)
    (har : ∀ j : Fin L, sar (ix2 0 j) = area (sx1 (ix2 0 j)) (sy1 (ix2 0 j)) (sx2 (ix2 0 j)) (sy2 (ix2 0 j)))
    (hk : ∀ j : Fin L, 0 ≤ kr (ix2 0 j)) (c : Fin 128) :
    freeRow L h x1 y1 x2 y2 sx1 sy1 sx2 sy2 sar kr (ix2 0 c)
      = if ∀ j : Fin L, Hits (sx1 (ix2 0 j)) (sy1 (ix2 0 j)) (sx2 (ix2 0 j)) (sy2 (ix2 0 j))
          (x1 (ix2 0 c)) (y1 (ix2 0 c)) (x2 (ix2 0 c)) (y2 (ix2 0 c)) → kr (ix2 0 j) = 0 then 1 else 0 := by
  simp only [freeRow, overM, interM, brow_eq h]
  pointwise [col, areaRow]
  rw [sitofp_ofBool]
  refine if_congr ?_ rfl rfl
  rw [ofBits_neg_inf, fold_max_eq_zero hL]
  · refine forall_congr' fun j => ?_
    rw [har j]
    unfold Hits area
    rw [min_comm (x2 _), max_comm (x1 _), min_comm (y2 _), max_comm (y1 _)]
    split_ifs with hh
    · simp [hh]
    · simp [hh]
  · intro j
    split_ifs
    · exact hk j
    · exact le_rfl

/-- The loop's test says whether the two rows differ. -/
theorem again_iff (k' k : FVec Ideal S1x128 .f32) : again k' k = 1#1 ↔ k' ≠ k := by
  unfold again
  pointwise
  rw [ofBits_neg_inf]
  have e : ∀ p : Prop, ∀ _ : Decidable p, (BitVec.ofBool (decide p) = 1#1 ↔ p) := by
    intro p _; by_cases h : p <;> simp [h]
  rw [e, Finset.lt_fold_max]
  constructor
  · rintro (h | ⟨x, -, hx⟩) rfl
    · exact absurd h not_lt_bot
    · simp at hx
  · intro h
    by_contra hc
    refine h (funext fun i => ?_)
    idx_vars i
    obtain rfl : i0 = 0 := Subsingleton.elim _ _
    by_contra hi
    refine hc (.inr ⟨(0, i1), Finset.mem_univ _, ?_⟩)
    simp [hi]

end Cert.Proof.K

end
-- ==== Proof.K.Settle.lean ====
/-
  The fixpoint inside a block: repeated passes settle.

  The suppression matrix only lets a box suppress later ones, so after `n` passes the first `n` entries stand still; after
  128 passes the whole row does. The loop stops at the first pass that changes nothing, and from there on the passes would
  go on giving the same row: what it returns is the settled row.
-/
module

public import proofs.«01_k».proof.Proof.K.Values
public import Idealize.ShloMosaic.Lib.Tactic
public import Idealize.ShloMosaic.Lib.Pipeline.Regions

@[expose] public section

noncomputable section

namespace Cert.Proof.K

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The row after `n` passes, from the free row. -/
def pass (tf : FVec Ideal S128x128 .f32) (fr : FVec Ideal S1x128 .f32) (n : ℕ) : FVec Ideal S1x128 .f32 :=
  (stepRow tf fr)^[n] fr

/-- The settled row. -/
def settle (tf : FVec Ideal S128x128 .f32) (fr : FVec Ideal S1x128 .f32) : FVec Ideal S1x128 .f32 := pass tf fr 128

section Pure

variable {tf : FVec Ideal S128x128 .f32} (fr : FVec Ideal S1x128 .f32)

theorem pass_succ (n : ℕ) : pass tf fr (n + 1) = stepRow tf fr (pass tf fr n) :=
  Function.iterate_succ_apply' _ _ _

variable (htf : ∀ j c : Fin 128, ¬j < c → tf (ix2 j c) = 0)
include htf

/-- After `n` passes the first `n` entries stand still. -/
theorem pass_still (n : ℕ) : ∀ c : Fin 128, c.val < n → pass tf fr (n + 1) (ix2 0 c) = pass tf fr n (ix2 0 c) := by
  induction n with
  | zero => intro c hc; exact absurd hc (Nat.not_lt_zero _)
  | succ n ih =>
    intro c hc
    rw [pass_succ, stepRow_apply, pass_succ fr n, stepRow_apply, ← pass_succ]
    have : ∑ j : Fin 128, pass tf fr (n + 1) (ix2 0 j) * tf (ix2 j c) = ∑ j : Fin 128, pass tf fr n (ix2 0 j) * tf (ix2 j c) := by
      refine Finset.sum_congr rfl fun j _ => ?_
      by_cases hj : j < c
      · rw [ih j (by have := Fin.lt_def.mp hj; omega)]
      · rw [htf j c hj, mul_zero, mul_zero]
    rw [this]

theorem pass_129 : pass tf fr 129 = pass tf fr 128 := by
  funext i
  idx_vars i
  obtain rfl : i0 = 0 := Subsingleton.elim _ _
  exact pass_still fr htf 128 i1 i1.isLt

/-- A pass leaves the settled row. -/
theorem step_settle : stepRow tf fr (settle tf fr) = settle tf fr := by
  rw [settle, ← pass_succ]; exact pass_129 fr htf

omit htf in
/-- A row that a pass leaves is left by every later one. -/
theorem pass_of_still {n : ℕ} (h : pass tf fr (n + 1) = pass tf fr n) (d : ℕ) : pass tf fr (n + d) = pass tf fr n := by
  induction d with
  | zero => rfl
  | succ d ih => rw [← Nat.add_assoc, pass_succ, ih, ← pass_succ, h]

end Pure

/-! ### The loops -/

local notation "𝕄" => MT nD τ sig Unit (Elt Ideal) ℕ (UR sig nD τ) ℕ

abbrev 𝒱₀ : Variants := Variants.nat

/-- Entering a label at a variant below the bound. -/
theorem enter {ℓ : (Λ₀ Ideal).Label} {a : (Λ₀ Ideal).Args ℓ} {Q : (Λ₀ Ideal).Result ℓ → sProp 𝕄} (c : Dev nD) (bd : Option ℕ) (v : ℕ)
    (hv : ∀ u ∈ bd, v < u) :
    wp frame (wpE (defs₀ (F := Ideal)) 𝒱₀ (c : Thread nD τ) (some v)) Set.univ (defs₀ (F := Ideal) .tc ℓ a) Q
      ⊢ wp frame (wpE (defs₀ (F := Ideal)) 𝒱₀ (c : Thread nD τ) bd) Set.univ (Prog.lift (.call ℓ a)) Q := by
  refine BIBase.Entails.trans ?_ (wp_call 𝒱₀ (c : Thread nD τ) bd Set.univ v hv)
  exact wp_mono _ _ _ fun x => by rw [wp_ret]; iintro H; imodintro; iexact H

/-- Each block's loop at its label: the test, then a pass and the loop again. -/
theorem loop_enter (i : Fin 40) (tf : FVec Ideal S128x128 .f32) (fr a b : FVec Ideal S1x128 .f32) (t : BitVec 1)
    (Q : Res Ideal → sProp 𝕄) (c : Dev nD) (bd : Option ℕ) (v : ℕ) (hv : ∀ u ∈ bd, v < u) :
    wp frame (wpE (defs₀ (F := Ideal)) 𝒱₀ (c : Thread nD τ) (some v)) Set.univ
        (if t = 1#1 then loop i tf fr (stepRow tf fr a) a (again (stepRow tf fr a) a) else pure (a, b, t)) Q
      ⊢ wp frame (wpE (defs₀ (F := Ideal)) 𝒱₀ (c : Thread nD τ) bd) Set.univ (loop i tf fr a b t) Q := by
  fin_cases i <;>
    (dsimp only [loop]
     refine BIBase.Entails.trans ?_ (enter c bd v hv)
     exact BIBase.Entails.of_eq (by chain_rfl))

/-- The loop, entered after `n` passes, returns the settled row. -/
theorem loop_run (i : Fin 40) {tf : FVec Ideal S128x128 .f32} (fr : FVec Ideal S1x128 .f32)
    (htf : ∀ j c : Fin 128, ¬j < c → tf (ix2 j c) = 0) (Q : Res Ideal → sProp 𝕄) (R : sProp 𝕄) (c : Dev nD)
    (hQ : ∀ b t, R ⊢ Q (settle tf fr, b, t)) (d : ℕ) : ∀ (n : ℕ) (bd : Option ℕ), n + d = 128 → (∀ u ∈ bd, d < u) →
      (R ⊢ wp frame (wpE (defs₀ (F := Ideal)) 𝒱₀ (c : Thread nD τ) bd) Set.univ
        (loop i tf fr (pass tf fr (n + 1)) (pass tf fr n) (again (pass tf fr (n + 1)) (pass tf fr n))) Q) := by
  have stop : ∀ (n : ℕ) (bd : Option ℕ), n ≤ 128 → pass tf fr (n + 1) = pass tf fr n →
      (R ⊢ wp frame (wpE (defs₀ (F := Ideal)) 𝒱₀ (c : Thread nD τ) bd) Set.univ
        (pure (pass tf fr (n + 1), pass tf fr n, again (pass tf fr (n + 1)) (pass tf fr n))) Q) := by
    intro n bd hn h
    have hs : pass tf fr (n + 1) = settle tf fr := by
      rw [h, settle, ← pass_of_still fr h (128 - n)]
      congr 1; omega
    rw [hs, Prog.pure_eq_ret, wp_ret]
    refine (hQ (pass tf fr n) (again (settle tf fr) (pass tf fr n))).trans ?_
    iintro H; imodintro; iexact H
  induction d with
  | zero =>
    intro n bd hn hv
    refine BIBase.Entails.trans ?_ (loop_enter i tf fr _ _ _ Q c bd 0 hv)
    obtain rfl : n = 128 := by omega
    have h := pass_129 fr htf
    rw [if_neg fun h1 => ((again_iff _ _).mp h1) h]
    exact stop 128 _ le_rfl h
  | succ d ih =>
    intro n bd hn hv
    refine BIBase.Entails.trans ?_ (loop_enter i tf fr _ _ _ Q c bd (d + 1) hv)
    by_cases h : pass tf fr (n + 1) = pass tf fr n
    · rw [if_neg fun h1 => ((again_iff _ _).mp h1) h]
      exact stop n _ (by omega) h
    · rw [if_pos ((again_iff _ _).mpr h), ← pass_succ]
      exact ih (n + 1) (some (d + 1)) (by omega) fun u hu => by cases hu; exact Nat.lt_succ_self d

/-- A block's loop, from the free row. -/
theorem loop_settles (i : Fin 40) {tf : FVec Ideal S128x128 .f32} (fr : FVec Ideal S1x128 .f32)
    (htf : ∀ j c : Fin 128, ¬j < c → tf (ix2 j c) = 0) (Q : Res Ideal → sProp 𝕄) (R : sProp 𝕄) (c : Dev nD)
    (hQ : ∀ b t, R ⊢ Q (settle tf fr, b, t)) :
    R ⊢ wp frame (wpE (defs₀ (F := Ideal)) 𝒱₀ (c : Thread nD τ) none) Set.univ
      (loop i tf fr (stepRow tf fr fr) fr (again (stepRow tf fr fr) fr)) Q :=
  loop_run i fr htf Q R c hQ 128 0 none rfl (by simp)

end Cert.Proof.K

end
-- ==== Proof.K.BodyEq.lean ====
/-
  The printed body is the chain of the forty blocks.
-/
module

public import proofs.«01_k».proof.Proof.K.Program
public import Idealize.ShloMosaic.Lib.Pipeline.Regions

@[expose] public section

noncomputable section

namespace Cert.Proof.K

open Cert.KernelIdeal Cert.KernelIdeal.Gen
open Idealize.ShloMosaic Idealize.ShloMosaic.TcCoe
open Idealize.SL.Sem

variable {F : FTy → Type} [FloatOps F]

/-- A strip of whole blocks, at most forty of them, has the facts its operations ask for. -/
theorem fits (i : Fin 40) : Fits (128 * (i.val + 1)) where
  pos := by revert i; decide
  inb := by revert i; decide
  cast := by revert i; decide
  bcol := by revert i; decide
  brow := by revert i; decide
  red := by revert i; decide

variable (arg0 : Memref sig .tc .vmem S1x5120 .f32) (arg1 : Memref sig .tc .vmem S1x5120 .f32)
  (arg2 : Memref sig .tc .vmem S1x5120 .f32) (arg3 : Memref sig .tc .vmem S1x5120 .f32)
  (arg4 : Memref sig .tc .vmem S40x128 .f32) (arg5 : Memref sig .tc .vmem S1x5120 .f32)
  (arg6 : Memref sig .tc .vmem S1x5120 .f32)

/-- The blocks of a list, one after the other. -/
def blocks : List (Fin 40) → Prog (TpuEff nD τ sig (Elt F) (Λ₀ F) .tc) PUnit
  | [] => pure ⟨⟩
  | i :: l => block arg0 arg1 arg2 arg3 arg4 arg5 arg6 i (128 * (i.val + 1)) (fits i) >>= fun _ => blocks l

/-- The printed body: the clearing, then the forty blocks. -/
theorem body_eq (h0 : arg0.IsWhole) (h1 : arg1.IsWhole) (h2 : arg2.IsWhole) (h3 : arg3.IsWhole) (h4 : arg4.IsWhole)
    (h5 : arg5.IsWhole) (h6 : arg6.IsWhole) :
    cc0__nms_kernel (F := F) arg0 h0 arg1 h1 arg2 h2 arg3 h3 arg4 h4 arg5 h5 arg6 h6 =
      prelude arg0 arg1 arg2 arg3 arg4 arg5 arg6 >>= fun _ =>
        blocks arg0 arg1 arg2 arg3 arg4 arg5 arg6
          [0, 1, 2, 3, 4, 5, 6, 7, 8, 9, 10, 11, 12, 13, 14, 15, 16, 17, 18, 19, 20, 21, 22, 23, 24, 25, 26, 27, 28, 29, 30,
            31, 32, 33, 34, 35, 36, 37, 38, 39] := by
  chain_rfl

end Cert.Proof.K

end
-- ==== Proof.K.Block.lean ====
/-
  One block of the kernel on its buffers.

  The block reads its own 128 boxes and the strip of boxes up to its end, settles, and writes its 128 decisions twice: as
  a row of the result and as a stretch of the kept row.
-/
module

public import proofs.«01_k».proof.Proof.K.Settle
public import proofs.«01_k».proof.Proof.K.BodyEq

@[expose] public section

noncomputable section

namespace Cert.Proof.K

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A box's place in block `i`. -/
def at5120 (i : Fin 40) (c : Fin 128) : Fin 5120 := ⟨128 * i.val + c.val, by have := i.isLt; have := c.isLt; omega⟩

/-- Block `i` of a row. -/
def blkOf (X : FVec Ideal S1x5120 .f32) (i : Fin 40) : FVec Ideal S1x128 .f32 := fun k => X (ix2 0 (at5120 i (k 1)))

/-- The first `L` entries of a row. -/
def stripOf (X : FVec Ideal S1x5120 .f32) (L : Nat) (h : Fits L) : FVec Ideal (row L) .f32 := fun k =>
  X (ix2 0 ⟨(k 1).val, lt_of_lt_of_le (k 1).isLt (by have := h.inb 1; simpa using this)⟩)

/-- Row `i` of the result replaced. -/
def putRow (O : FVec Ideal S40x128 .f32) (i : Fin 40) (r : FVec Ideal S1x128 .f32) : FVec Ideal S40x128 .f32 := fun k =>
  if (k 0).val = i.val then r (ix2 0 (k 1)) else O k

/-- Block `i` of a row replaced. -/
def putBlk (K : FVec Ideal S1x5120 .f32) (i : Fin 40) (r : FVec Ideal S1x128 .f32) : FVec Ideal S1x5120 .f32 := fun k =>
  if h : 128 * i.val ≤ (k 1).val ∧ (k 1).val < 128 * i.val + 128 then
    r (ix2 0 ⟨(k 1).val - 128 * i.val, by omega⟩) else K k

/-! ### Where the accesses read and write -/

abbrev rBlk (i : Fin 40) : Rect S1x5120 := Rect.unit (s := S1x5120) (k0_off1 (BitVec.ofNat 32 i.val)) S1x128.size (k0_off1_inb i)
abbrev rStrip (L : Nat) (h : Fits L) : Rect S1x5120 := Rect.unit (s := S1x5120) ![0, 0] (row L).size h.inb
abbrev rRow (i : Fin 40) : Rect S40x128 := Rect.unit (s := S40x128) ![i.val, 0] S1x128.size (out_inb i)

theorem rBlk_emb (i : Fin 40) (x : S1x128.Idx) : (rBlk i).emb x = ix2 0 (at5120 i (x 1)) := by
  have e := k0_off1_eq i
  funext a
  apply Fin.ext
  show k0_off1 (BitVec.ofNat 32 i.val) a + 1 * (x a).val = _
  rw [e]
  fin_cases a
  · have : (x 0).val < 1 := (x 0).isLt
    show 0 + 1 * (x 0).val = 0
    omega
  · show 128 * i.val + 1 * (x 1).val = 128 * i.val + (x 1).val
    omega

theorem rRow_emb (i : Fin 40) (x : S1x128.Idx) : (rRow i).emb x = ix2 i (x 1) := by
  funext a
  apply Fin.ext
  fin_cases a
  · have : (x 0).val < 1 := (x 0).isLt
    show i.val + 1 * (x 0).val = i.val
    omega
  · show 0 + 1 * (x 1).val = (x 1).val
    omega

theorem read_blk (X : FVec Ideal S1x5120 .f32) (i : Fin 40) : (fun x => X ((rBlk i).emb x)) = blkOf X i :=
  funext fun x => congrArg X (rBlk_emb i x)

theorem read_strip (X : FVec Ideal S1x5120 .f32) (L : Nat) (h : Fits L) :
    (fun x => X ((rStrip L h).emb x)) = stripOf X L h := by
  funext x
  refine congrArg X (funext fun a => Fin.ext ?_)
  fin_cases a
  · have : (x 0).val < 1 := (x 0).isLt
    show 0 + 1 * (x 0).val = 0
    omega
  · show 0 + 1 * (x 1).val = (x 1).val
    omega

theorem write_row (O : FVec Ideal S40x128 .f32) (i : Fin 40) (r : FVec Ideal S1x128 .f32) :
    ((Memref.whole cc0_stg4_0).access (rRow i)).write (Elt Ideal) O r Finset.univ = putRow O i r := by
  funext k
  by_cases hk : (k 0).val = i.val
  · have e : ((Memref.whole cc0_stg4_0).access (rRow i)).emb (ix2 0 (k 1)) = k := by
      refine (rRow_emb i _).trans (funext fun a => ?_)
      fin_cases a
      · exact Fin.ext hk.symm
      · rfl
    have h := View.write_emb_of_mem (Val := Elt Ideal) (v := (Memref.whole cc0_stg4_0).access (rRow i)) O r
      (Finset.mem_univ (ix2 0 (k 1)))
    refine (congrArg _ e).symm.trans (h.trans ?_)
    rw [putRow, if_pos hk]
    rfl
  · rw [View.write_of_not_mem, putRow, if_neg hk]
    intro hm
    obtain ⟨x, -, hx⟩ := Finset.mem_map.mp hm
    apply hk
    rw [← hx]
    exact congrArg Fin.val (congrFun (rRow_emb i x) 0)

theorem write_blk (K : FVec Ideal S1x5120 .f32) (i : Fin 40) (r : FVec Ideal S1x128 .f32) :
    ((Memref.whole cc0_scratch1).access (rBlk i)).write (Elt Ideal) K r Finset.univ = putBlk K i r := by
  funext k
  by_cases hk : 128 * i.val ≤ (k 1).val ∧ (k 1).val < 128 * i.val + 128
  · have e : ((Memref.whole cc0_scratch1).access (rBlk i)).emb (ix2 0 ⟨(k 1).val - 128 * i.val, by omega⟩) = k := by
      refine (rBlk_emb i _).trans (funext fun a => Fin.ext ?_)
      fin_cases a
      · have : (k 0).val < 1 := (k 0).isLt
        show 0 = (k 0).val
        omega
      · show 128 * i.val + ((k 1).val - 128 * i.val) = (k 1).val
        omega
    have h := View.write_emb_of_mem (Val := Elt Ideal) (v := (Memref.whole cc0_scratch1).access (rBlk i)) K r
      (Finset.mem_univ (ix2 0 ⟨(k 1).val - 128 * i.val, by omega⟩))
    refine (congrArg _ e).symm.trans (h.trans ?_)
    rw [putBlk, dif_pos hk]
    rfl
  · rw [View.write_of_not_mem, putBlk, dif_neg hk]
    intro hm
    obtain ⟨x, -, hx⟩ := Finset.mem_map.mp hm
    apply hk
    have hv : (k 1).val = 128 * i.val + (x 1).val := by
      rw [← hx]
      exact congrArg Fin.val (congrFun (rBlk_emb i x) 1)
    have : (x 1).val < 128 := (x 1).isLt
    omega

/-! ### The block -/

local notation "𝕄" => MT nD τ sig Unit (Elt Ideal) ℕ (UR sig nD τ) ℕ

section Run

variable (c : Dev nD) (X1 Y1 X2 Y2 : FVec Ideal S1x5120 .f32)

/-- The body's buffers: the four coordinate rows, the result, the areas, the kept row. -/
def St (O : FVec Ideal S40x128 .f32) (A K : FVec Ideal S1x5120 .f32) : sProp 𝕄 :=
  iprop((((c : Thread nD τ).loc cc0_stg0_0) ↦{fullShare} (X1 : Buf (Elt Ideal) ((c : Thread nD τ).loc cc0_stg0_0)))
    ∗ (((c : Thread nD τ).loc cc0_stg1_0) ↦{fullShare} (Y1 : Buf (Elt Ideal) ((c : Thread nD τ).loc cc0_stg1_0)))
    ∗ (((c : Thread nD τ).loc cc0_stg2_0) ↦{fullShare} (X2 : Buf (Elt Ideal) ((c : Thread nD τ).loc cc0_stg2_0)))
    ∗ (((c : Thread nD τ).loc cc0_stg3_0) ↦{fullShare} (Y2 : Buf (Elt Ideal) ((c : Thread nD τ).loc cc0_stg3_0)))
    ∗ (((c : Thread nD τ).loc cc0_stg4_0) ↦{fullShare} (O : Buf (Elt Ideal) ((c : Thread nD τ).loc cc0_stg4_0)))
    ∗ (((c : Thread nD τ).loc cc0_scratch0) ↦{fullShare} (A : Buf (Elt Ideal) ((c : Thread nD τ).loc cc0_scratch0)))
    ∗ (((c : Thread nD τ).loc cc0_scratch1) ↦{fullShare} (K : Buf (Elt Ideal) ((c : Thread nD τ).loc cc0_scratch1))))

/-- The suppression matrix within block `i`. -/
def blkTri (i : Fin 40) : FVec Ideal S128x128 .f32 :=
  tri (shapeCast S1x128 (blkOf X1 i) shapeCasts_S1x128_S1x128) (shapeCast S1x128 (blkOf Y1 i) shapeCasts_S1x128_S1x128)
    (shapeCast S1x128 (blkOf X2 i) shapeCasts_S1x128_S1x128) (shapeCast S1x128 (blkOf Y2 i) shapeCasts_S1x128_S1x128)

/-- Block `i`'s free row, given the areas and the kept row. -/
def blkFree (i : Fin 40) (L : Nat) (h : Fits L) (A K : FVec Ideal S1x5120 .f32) : FVec Ideal S1x128 .f32 :=
  freeRow L h
    (shapeCast S1x128 (blkOf X1 i) shapeCasts_S1x128_S1x128) (shapeCast S1x128 (blkOf Y1 i) shapeCasts_S1x128_S1x128)
    (shapeCast S1x128 (blkOf X2 i) shapeCasts_S1x128_S1x128) (shapeCast S1x128 (blkOf Y2 i) shapeCasts_S1x128_S1x128)
    (shapeCast (row L) (stripOf X1 L h) h.cast) (shapeCast (row L) (stripOf Y1 L h) h.cast)
    (shapeCast (row L) (stripOf X2 L h) h.cast) (shapeCast (row L) (stripOf Y2 L h) h.cast)
    (stripOf A L h) (stripOf K L h)

/-- Block `i`'s decisions. -/
def blkKeep (i : Fin 40) (L : Nat) (h : Fits L) (A K : FVec Ideal S1x5120 .f32) : FVec Ideal S1x128 .f32 :=
  settle (blkTri X1 Y1 X2 Y2 i) (blkFree X1 Y1 X2 Y2 i L h A K)

theorem blkTri_lower (i : Fin 40) (j k : Fin 128) (h : ¬j < k) : blkTri X1 Y1 X2 Y2 i (ix2 j k) = 0 := by
  rw [blkTri, tri_apply, if_neg fun hh => h hh.2]

/-- A block's end: its decisions stored. -/
theorem block_end (i : Fin 40) (O : FVec Ideal S40x128 .f32) (A K : FVec Ideal S1x5120 .f32) (r : FVec Ideal S1x128 .f32) :
    St c X1 Y1 X2 Y2 O A K
      ⊢ wp frame (wpE (defs₀ (F := Ideal)) 𝒱₀ (c : Thread nD τ) none) Set.univ
        (.op (.load (Memref.whole cc0_stg4_0) (rRow i).toLoadRect (View.loadsAt_vmem h_S1x128)) fun _ =>
          .op (.store (Memref.whole cc0_stg4_0) (rRow i) r Finset.univ (View.stores_vmem_bits_univ h_S1x128 rfl) (.inl rfl)) fun _ =>
          .op (.load (Memref.whole cc0_scratch1) (rBlk i).toLoadRect (View.loadsAt_vmem h_S1x128)) fun _ =>
          .op (.store (Memref.whole cc0_scratch1) (rBlk i) (shapeCast S1x128 r shapeCasts_S1x128_S1x128) Finset.univ
            (View.stores_vmem_bits_univ h_S1x128 rfl) (.inl rfl)) .ret)
        (fun _ => St c X1 Y1 X2 Y2 (putRow O i r) A (putBlk K i (shapeCast S1x128 r shapeCasts_S1x128_S1x128))) := by
  unfold St
  iintro ⟨H0, H1, H2, H3, H4, HA, HK⟩
  iapply (wp_load_rect 𝒱₀ (c : Thread nD τ) none Set.univ (m := Memref.whole cc0_stg4_0) (r := rRow i) (Finset.subset_univ _)) $$ H4; iintro H4
  iapply (wp_store 𝒱₀ (c : Thread nD τ) none Set.univ (m := Memref.whole cc0_stg4_0) (r := rRow i) (Mk := Finset.univ) (Finset.subset_univ _)) $$ H4; iintro H4
  iapply (wp_load_rect 𝒱₀ (c : Thread nD τ) none Set.univ (m := Memref.whole cc0_scratch1) (r := rBlk i) (Finset.subset_univ _)) $$ HK; iintro HK
  iapply (wp_store 𝒱₀ (c : Thread nD τ) none Set.univ (m := Memref.whole cc0_scratch1) (r := rBlk i) (Mk := Finset.univ) (Finset.subset_univ _)) $$ HK; iintro HK
  rw [write_row, write_blk, wp_ret]
  imodintro
  isplitl [H0]; · iexact H0
  isplitl [H1]; · iexact H1
  isplitl [H2]; · iexact H2
  isplitl [H3]; · iexact H3
  isplitl [H4]; · iexact H4
  isplitl [HA]; · iexact HA
  iexact HK

theorem block_run (i : Fin 40) (L : Nat) (h : Fits L) (O : FVec Ideal S40x128 .f32) (A K : FVec Ideal S1x5120 .f32) :
    St c X1 Y1 X2 Y2 O A K
      ⊢ wp frame (wpE (defs₀ (F := Ideal)) 𝒱₀ (c : Thread nD τ) none) Set.univ
        (block (F := Ideal) (Memref.whole cc0_stg0_0) (Memref.whole cc0_stg1_0) (Memref.whole cc0_stg2_0)
          (Memref.whole cc0_stg3_0) (Memref.whole cc0_stg4_0) (Memref.whole cc0_scratch0) (Memref.whole cc0_scratch1) i L h)
        (fun _ => St c X1 Y1 X2 Y2 (putRow O i (blkKeep X1 Y1 X2 Y2 i L h A K)) A
          (putBlk K i (shapeCast S1x128 (blkKeep X1 Y1 X2 Y2 i L h A K) shapeCasts_S1x128_S1x128))) := by
  unfold block loadBlk loadStrip St
  simp only [Prog.lift, Prog.bind_op, Prog.bind_ret, Prog.pure_eq_ret]
  iintro ⟨H0, H1, H2, H3, H4, HA, HK⟩
  iapply (wp_load_rect 𝒱₀ (c : Thread nD τ) none Set.univ (m := Memref.whole cc0_stg0_0) (r := rBlk i) (Finset.subset_univ _)) $$ H0; iintro H0
  iapply (wp_load_rect 𝒱₀ (c : Thread nD τ) none Set.univ (m := Memref.whole cc0_stg1_0) (r := rBlk i) (Finset.subset_univ _)) $$ H1; iintro H1
  iapply (wp_load_rect 𝒱₀ (c : Thread nD τ) none Set.univ (m := Memref.whole cc0_stg2_0) (r := rBlk i) (Finset.subset_univ _)) $$ H2; iintro H2
  iapply (wp_load_rect 𝒱₀ (c : Thread nD τ) none Set.univ (m := Memref.whole cc0_stg3_0) (r := rBlk i) (Finset.subset_univ _)) $$ H3; iintro H3
  iapply (wp_load_rect 𝒱₀ (c : Thread nD τ) none Set.univ (m := Memref.whole cc0_stg0_0) (r := rStrip L h) (Finset.subset_univ _)) $$ H0; iintro H0
  iapply (wp_load_rect 𝒱₀ (c : Thread nD τ) none Set.univ (m := Memref.whole cc0_stg1_0) (r := rStrip L h) (Finset.subset_univ _)) $$ H1; iintro H1
  iapply (wp_load_rect 𝒱₀ (c : Thread nD τ) none Set.univ (m := Memref.whole cc0_stg2_0) (r := rStrip L h) (Finset.subset_univ _)) $$ H2; iintro H2
  iapply (wp_load_rect 𝒱₀ (c : Thread nD τ) none Set.univ (m := Memref.whole cc0_stg3_0) (r := rStrip L h) (Finset.subset_univ _)) $$ H3; iintro H3
  iapply (wp_load_rect 𝒱₀ (c : Thread nD τ) none Set.univ (m := Memref.whole cc0_scratch0) (r := rStrip L h) (Finset.subset_univ _)) $$ HA; iintro HA
  iapply (wp_load_rect 𝒱₀ (c : Thread nD τ) none Set.univ (m := Memref.whole cc0_scratch1) (r := rStrip L h) (Finset.subset_univ _)) $$ HK; iintro HK
  rw [show View.read (Elt Ideal) ((Memref.whole cc0_stg0_0).access (rBlk i)) X1 = blkOf X1 i from read_blk X1 i,
    show View.read (Elt Ideal) ((Memref.whole cc0_stg1_0).access (rBlk i)) Y1 = blkOf Y1 i from read_blk Y1 i,
    show View.read (Elt Ideal) ((Memref.whole cc0_stg2_0).access (rBlk i)) X2 = blkOf X2 i from read_blk X2 i,
    show View.read (Elt Ideal) ((Memref.whole cc0_stg3_0).access (rBlk i)) Y2 = blkOf Y2 i from read_blk Y2 i,
    show View.read (Elt Ideal) ((Memref.whole cc0_stg0_0).access (rStrip L h)) X1 = stripOf X1 L h from read_strip X1 L h,
    show View.read (Elt Ideal) ((Memref.whole cc0_stg1_0).access (rStrip L h)) Y1 = stripOf Y1 L h from read_strip Y1 L h,
    show View.read (Elt Ideal) ((Memref.whole cc0_stg2_0).access (rStrip L h)) X2 = stripOf X2 L h from read_strip X2 L h,
    show View.read (Elt Ideal) ((Memref.whole cc0_stg3_0).access (rStrip L h)) Y2 = stripOf Y2 L h from read_strip Y2 L h,
    show View.read (Elt Ideal) ((Memref.whole cc0_scratch0).access (rStrip L h)) A = stripOf A L h from read_strip A L h,
    show View.read (Elt Ideal) ((Memref.whole cc0_scratch1).access (rStrip L h)) K = stripOf K L h from read_strip K L h]
  rw [wp_bind]
  have hl := fun Q hQ => loop_settles i (blkFree X1 Y1 X2 Y2 i L h A K) (blkTri_lower X1 Y1 X2 Y2 i) Q (St c X1 Y1 X2 Y2 O A K) c hQ
  rw [show settle (blkTri X1 Y1 X2 Y2 i) (blkFree X1 Y1 X2 Y2 i L h A K) = blkKeep X1 Y1 X2 Y2 i L h A K from rfl] at hl
  unfold blkFree blkTri at hl
  iapply (hl _ ?_) $$ [H0 H1 H2 H3 H4 HA HK]
  rotate_left
  · unfold St
    isplitl [H0]; · iexact H0
    isplitl [H1]; · iexact H1
    isplitl [H2]; · iexact H2
    isplitl [H3]; · iexact H3
    isplitl [H4]; · iexact H4
    isplitl [HA]; · iexact HA
    iexact HK
  exact fun b t => block_end c X1 Y1 X2 Y2 i O A K _

end Run

end Cert.Proof.K

end
-- ==== Proof.K.Sweep.lean ====
/-
  The forty blocks make the greedy choice.

  After `n` blocks the kept row says, of the first `128 n` boxes, which the greedy rule keeps, and is zero beyond; the
  result's first `n` rows say the same, 128 boxes a row.
-/
module

public import proofs.«01_k».proof.Proof.K.Block
public import proofs.«01_k».proof.Proof.Greedy

@[expose] public section

noncomputable section

namespace Cert.Proof.K

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Values

variable (X1 Y1 X2 Y2 : FVec Ideal S1x5120 .f32)

/-- Box `j` suppresses box `k`, by their places in the rows. -/
def Over (j k : ℕ) : Prop := ∃ (hj : j < 5120) (hk : k < 5120),
  Hits (X1 (ix2 0 ⟨j, hj⟩)) (Y1 (ix2 0 ⟨j, hj⟩)) (X2 (ix2 0 ⟨j, hj⟩)) (Y2 (ix2 0 ⟨j, hj⟩))
    (X1 (ix2 0 ⟨k, hk⟩)) (Y1 (ix2 0 ⟨k, hk⟩)) (X2 (ix2 0 ⟨k, hk⟩)) (Y2 (ix2 0 ⟨k, hk⟩))

open Classical in
/-- One for a kept box, zero for a suppressed one. -/
def ind (k : ℕ) : EReal := if Kept (Over X1 Y1 X2 Y2) k then 1 else 0

theorem ind_nonneg (k : ℕ) : 0 ≤ ind X1 Y1 X2 Y2 k := by
  unfold ind; split_ifs <;> simp

theorem ind_eq_zero (k : ℕ) : ind X1 Y1 X2 Y2 k = 0 ↔ ¬Kept (Over X1 Y1 X2 Y2) k := by
  unfold ind; split_ifs with h <;> simp [h]

/-- The areas of all boxes. -/
def areas : FVec Ideal S1x5120 .f32 := fun k => area (X1 k) (Y1 k) (X2 k) (Y2 k)

/-- The kept row after `n` blocks. -/
def keepAt (n : ℕ) : FVec Ideal S1x5120 .f32 := fun k => if (k 1).val < 128 * n then ind X1 Y1 X2 Y2 (k 1).val else 0

/-- The result after `n` blocks. -/
def outAt (n : ℕ) : FVec Ideal S40x128 .f32 := fun k =>
  if (k 0).val < n then ind X1 Y1 X2 Y2 (128 * (k 0).val + (k 1).val) else 0

theorem strip_apply (X : FVec Ideal S1x5120 .f32) (L : ℕ) (h : Fits L) (j : Fin L) (hj : j.val < 5120) :
    stripOf X L h (ix2 0 j) = X (ix2 0 ⟨j.val, hj⟩) := rfl

theorem blk_apply (X : FVec Ideal S1x5120 .f32) (i : Fin 40) (c : Fin 128) : blkOf X i (ix2 0 c) = X (ix2 0 (at5120 i c)) := rfl

theorem keepAt_apply (n : ℕ) (j : Fin 5120) :
    keepAt X1 Y1 X2 Y2 n (ix2 0 j) = if j.val < 128 * n then ind X1 Y1 X2 Y2 j.val else 0 := rfl

open Classical in
/-- The free row: a one where no kept box of an earlier block suppresses. -/
theorem blkFree_apply (i : Fin 40) (h : Fits (128 * (i.val + 1))) (c : Fin 128) :
    blkFree X1 Y1 X2 Y2 i _ h (areas X1 Y1 X2 Y2) (keepAt X1 Y1 X2 Y2 i.val) (ix2 0 c)
      = if ∀ j, j < 128 * i.val → Kept (Over X1 Y1 X2 Y2) j → ¬Over X1 Y1 X2 Y2 j (128 * i.val + c.val) then 1 else 0 := by
  have hi := i.isLt
  have hc := c.isLt
  unfold blkFree
  simp only [shapeCast_id]
  rw [freeRow_apply _ (by omega) h _ _ _ _ _ _ _ _ _ _ (fun j => rfl) (fun j => ?_) c]
  · refine if_congr ⟨fun H j hj hk ho => ?_, fun H j hh => ?_⟩ rfl rfl
    · obtain ⟨h1, h2, ho⟩ := ho
      have := H ⟨j, by omega⟩ ho
      rw [strip_apply _ _ _ _ h1, keepAt_apply, if_pos hj, ind_eq_zero] at this
      exact this hk
    · have hj5 : j.val < 5120 := by have := j.isLt; omega
      rw [strip_apply _ _ _ _ hj5, keepAt_apply]
      split_ifs with hj
      · rw [ind_eq_zero]
        exact fun hk => H j.val hj hk ⟨hj5, by omega, hh⟩
      · rfl
  · have hj5 : j.val < 5120 := by have := j.isLt; omega
    rw [strip_apply _ _ _ _ hj5, keepAt_apply]
    split_ifs
    · exact ind_nonneg _ _ _ _ _
    · exact le_rfl

open Classical in
theorem blkTri_apply (i : Fin 40) (j c : Fin 128) :
    blkTri X1 Y1 X2 Y2 i (ix2 j c)
      = if Over X1 Y1 X2 Y2 (128 * i.val + j.val) (128 * i.val + c.val) ∧ j < c then 1 else 0 := by
  unfold blkTri
  simp only [shapeCast_id]
  rw [tri_apply]
  refine if_congr (and_congr_left fun _ => ⟨fun h => ⟨(at5120 i j).isLt, (at5120 i c).isLt, h⟩, fun ⟨_, _, h⟩ => h⟩) rfl rfl

/-- A block's settled row is the greedy choice. -/
theorem blkKeep_apply (i : Fin 40) (h : Fits (128 * (i.val + 1))) (c : Fin 128) :
    blkKeep X1 Y1 X2 Y2 i _ h (areas X1 Y1 X2 Y2) (keepAt X1 Y1 X2 Y2 i.val) (ix2 0 c) = ind X1 Y1 X2 Y2 (128 * i.val + c.val) := by
  classical
  obtain ⟨n, hn⟩ : ∃ n, n = c.val := ⟨_, rfl⟩
  induction n using Nat.strong_induction_on generalizing c with
  | _ n ih =>
    unfold blkKeep
    rw [← step_settle _ (blkTri_lower X1 Y1 X2 Y2 i), stepRow_apply, blkFree_apply]
    have hs : (∑ j : Fin 128, settle (blkTri X1 Y1 X2 Y2 i) (blkFree X1 Y1 X2 Y2 i _ h (areas X1 Y1 X2 Y2) (keepAt X1 Y1 X2 Y2 i.val)) (ix2 0 j)
        * blkTri X1 Y1 X2 Y2 i (ix2 j c) = 0)
        ↔ ∀ j : Fin 128, j < c → Kept (Over X1 Y1 X2 Y2) (128 * i.val + j.val) → ¬Over X1 Y1 X2 Y2 (128 * i.val + j.val) (128 * i.val + c.val) := by
      have ht : ∀ j : Fin 128, settle (blkTri X1 Y1 X2 Y2 i) (blkFree X1 Y1 X2 Y2 i _ h (areas X1 Y1 X2 Y2) (keepAt X1 Y1 X2 Y2 i.val)) (ix2 0 j)
          * blkTri X1 Y1 X2 Y2 i (ix2 j c)
          = if Kept (Over X1 Y1 X2 Y2) (128 * i.val + j.val) ∧ Over X1 Y1 X2 Y2 (128 * i.val + j.val) (128 * i.val + c.val) ∧ j < c then 1 else 0 := by
        intro j
        rw [blkTri_apply]
        by_cases hj : j < c
        · have := ih j.val (by rw [hn]; exact hj) j rfl
          unfold blkKeep at this
          rw [this, ind]
          by_cases h1 : Kept (Over X1 Y1 X2 Y2) (128 * i.val + j.val) <;>
            by_cases h2 : Over X1 Y1 X2 Y2 (128 * i.val + j.val) (128 * i.val + c.val) <;> simp [h1, h2, hj]
        · rw [if_neg fun h => hj h.2, if_neg fun h => hj h.2.2, mul_zero]
      rw [Finset.sum_congr rfl fun j _ => ht j, Finset.sum_eq_zero_iff_of_nonneg fun j _ => by split_ifs <;> simp]
      refine ⟨fun H j hj hk ho => ?_, fun H j _ => if_neg fun hh => H j hh.2.2 hh.1 hh.2.1⟩
      have := H j (Finset.mem_univ j)
      rw [if_pos ⟨hk, ho, hj⟩] at this
      exact one_ne_zero this
    have hk : Kept (Over X1 Y1 X2 Y2) (128 * i.val + c.val) ↔
        (∀ j, j < 128 * i.val → Kept (Over X1 Y1 X2 Y2) j → ¬Over X1 Y1 X2 Y2 j (128 * i.val + c.val))
        ∧ ∀ j : Fin 128, j < c → Kept (Over X1 Y1 X2 Y2) (128 * i.val + j.val) → ¬Over X1 Y1 X2 Y2 (128 * i.val + j.val) (128 * i.val + c.val) := by
      rw [kept_iff]
      refine ⟨fun H => ⟨fun j hj => H j (by omega), fun j hj => H _ (by have := Fin.lt_def.mp hj; omega)⟩, fun H j hj => ?_⟩
      by_cases hj' : j < 128 * i.val
      · exact H.1 j hj'
      · have hc := c.isLt
        have := H.2 ⟨j - 128 * i.val, by omega⟩ (Fin.lt_def.mpr (by show j - 128 * i.val < c.val; omega))
        rwa [show 128 * i.val + (j - 128 * i.val) = j from by omega] at this
    rw [ind]
    by_cases h1 : ∀ j, j < 128 * i.val → Kept (Over X1 Y1 X2 Y2) j → ¬Over X1 Y1 X2 Y2 j (128 * i.val + c.val) <;>
      by_cases h2 : ∀ j : Fin 128, j < c → Kept (Over X1 Y1 X2 Y2) (128 * i.val + j.val) → ¬Over X1 Y1 X2 Y2 (128 * i.val + j.val) (128 * i.val + c.val)
    · rw [if_pos h1, if_pos (hs.mpr h2), if_pos (hk.mpr ⟨h1, h2⟩), mul_one]
    · rw [if_neg fun h => h2 (hs.mp h), if_neg fun h => h2 (hk.mp h).2, mul_zero]
    · rw [if_neg h1, if_neg fun h => h1 (hk.mp h).1, zero_mul]
    · rw [if_neg h1, if_neg fun h => h1 (hk.mp h).1, zero_mul]

/-- A block's decisions take the result from `i` to `i + 1` rows, -/
theorem putRow_outAt (i : Fin 40) (h : Fits (128 * (i.val + 1))) :
    putRow (outAt X1 Y1 X2 Y2 i.val) i (blkKeep X1 Y1 X2 Y2 i _ h (areas X1 Y1 X2 Y2) (keepAt X1 Y1 X2 Y2 i.val))
      = outAt X1 Y1 X2 Y2 (i.val + 1) := by
  funext k
  unfold putRow
  by_cases hk : (k 0).val = i.val
  · rw [if_pos hk]
    refine (blkKeep_apply X1 Y1 X2 Y2 i h (k 1)).trans ?_
    unfold outAt
    rw [if_pos (by omega), hk]
  · rw [if_neg hk]
    unfold outAt
    exact if_congr (by omega) rfl rfl

/-- and the kept row from `i` to `i + 1` blocks. -/
theorem putBlk_keepAt (i : Fin 40) (h : Fits (128 * (i.val + 1))) :
    putBlk (keepAt X1 Y1 X2 Y2 i.val) i (shapeCast S1x128
        (blkKeep X1 Y1 X2 Y2 i _ h (areas X1 Y1 X2 Y2) (keepAt X1 Y1 X2 Y2 i.val)) shapeCasts_S1x128_S1x128)
      = keepAt X1 Y1 X2 Y2 (i.val + 1) := by
  rw [shapeCast_id]
  funext k
  unfold putBlk
  by_cases hk : 128 * i.val ≤ (k 1).val ∧ (k 1).val < 128 * i.val + 128
  · rw [dif_pos hk]
    refine (blkKeep_apply X1 Y1 X2 Y2 i h _).trans ?_
    unfold keepAt
    rw [if_pos (by omega)]
    exact congrArg _ (by show 128 * i.val + ((k 1).val - 128 * i.val) = (k 1).val; omega)
  · rw [dif_neg hk]
    unfold keepAt
    exact if_congr (by omega) rfl rfl

end Values

section Run

variable (c : Dev nD) (X1 Y1 X2 Y2 : FVec Ideal S1x5120 .f32)

/-- The blocks from number `n` on, in order. -/
def Consec : ℕ → List (Fin 40) → Prop
  | _, [] => True
  | n, i :: l => i.val = n ∧ Consec (n + 1) l

theorem blocks_run (l : List (Fin 40)) : ∀ n, Consec n l →
    (St c X1 Y1 X2 Y2 (outAt X1 Y1 X2 Y2 n) (areas X1 Y1 X2 Y2) (keepAt X1 Y1 X2 Y2 n)
      ⊢ wp frame (wpE (defs₀ (F := Ideal)) 𝒱₀ (c : Thread nD τ) none) Set.univ
        (blocks (F := Ideal) (Memref.whole cc0_stg0_0) (Memref.whole cc0_stg1_0) (Memref.whole cc0_stg2_0)
          (Memref.whole cc0_stg3_0) (Memref.whole cc0_stg4_0) (Memref.whole cc0_scratch0) (Memref.whole cc0_scratch1) l)
        (fun _ => St c X1 Y1 X2 Y2 (outAt X1 Y1 X2 Y2 (n + l.length)) (areas X1 Y1 X2 Y2) (keepAt X1 Y1 X2 Y2 (n + l.length)))) := by
  induction l with
  | nil =>
    intro n _
    unfold blocks
    rw [Prog.pure_eq_ret, wp_ret]
    iintro H; imodintro; iexact H
  | cons i l ih =>
    intro n hl
    obtain ⟨rfl, hl⟩ := hl
    unfold blocks
    rw [wp_bind]
    refine (block_run c X1 Y1 X2 Y2 i _ (fits i) _ _ _).trans (wp_mono _ _ _ fun _ => ?_)
    rw [putRow_outAt, putBlk_keepAt, show i.val + (i :: l).length = i.val + 1 + l.length from by rw [List.length_cons]; omega]
    exact ih _ hl

theorem consec_all : Consec 0 [0, 1, 2, 3, 4, 5, 6, 7, 8, 9, 10, 11, 12, 13, 14, 15, 16, 17, 18, 19, 20, 21, 22, 23, 24, 25, 26, 27, 28, 29,
    30, 31, 32, 33, 34, 35, 36, 37, 38, 39] := by
  repeat' first | exact trivial | refine ⟨rfl, ?_⟩

theorem zero_row : (broadcast S1x5120 (Scalar.ofBits .f32 0x00000000#32) : FVec Ideal S1x5120 .f32) = keepAt X1 Y1 X2 Y2 0 := by
  funext k
  have : ¬(k 1).val < 128 * 0 := by omega
  unfold keepAt
  rw [if_neg this]
  pointwise

theorem zero_out : (broadcast S40x128 (Scalar.ofBits .f32 0x00000000#32) : FVec Ideal S40x128 .f32) = outAt X1 Y1 X2 Y2 0 := by
  funext k
  unfold outAt
  rw [if_neg (Nat.not_lt_zero _)]
  pointwise

theorem areaRow_eq : areaRow X1 Y1 X2 Y2 = areas X1 Y1 X2 Y2 := rfl

abbrev rAll : Rect S1x5120 := Rect.unit (s := S1x5120) ![0, 0] S1x5120.size inb_S1x5120_S1x5120_0_0
abbrev rOut : Rect S40x128 := Rect.unit (s := S40x128) ![0, 0] S40x128.size inb_S40x128_S40x128_0_0

theorem off_zero : (![0, 0] : Fin 2 → ℕ) = fun _ => 0 := by
  funext a; fin_cases a <;> rfl

theorem prelude_run (O : FVec Ideal S40x128 .f32) (A K : FVec Ideal S1x5120 .f32) :
    St c X1 Y1 X2 Y2 O A K
      ⊢ wp frame (wpE (defs₀ (F := Ideal)) 𝒱₀ (c : Thread nD τ) none) Set.univ
        (prelude (F := Ideal) (Memref.whole cc0_stg0_0) (Memref.whole cc0_stg1_0) (Memref.whole cc0_stg2_0)
          (Memref.whole cc0_stg3_0) (Memref.whole cc0_stg4_0) (Memref.whole cc0_scratch0) (Memref.whole cc0_scratch1))
        (fun _ => St c X1 Y1 X2 Y2 (outAt X1 Y1 X2 Y2 0) (areas X1 Y1 X2 Y2) (keepAt X1 Y1 X2 Y2 0)) := by
  unfold prelude loadAll storeAll St
  simp only [Prog.lift, Prog.bind_op, Prog.bind_ret, Prog.pure_eq_ret]
  iintro ⟨H0, H1, H2, H3, H4, HA, HK⟩
  iapply (wp_load_rect 𝒱₀ (c : Thread nD τ) none Set.univ (m := Memref.whole cc0_stg4_0) (r := rOut) (Finset.subset_univ _)) $$ H4; iintro H4
  iapply (wp_store 𝒱₀ (c : Thread nD τ) none Set.univ (m := Memref.whole cc0_stg4_0) (r := rOut) (Mk := Finset.univ) (Finset.subset_univ _)) $$ H4; iintro H4
  iapply (wp_load_rect 𝒱₀ (c : Thread nD τ) none Set.univ (m := Memref.whole cc0_scratch1) (r := rAll) (Finset.subset_univ _)) $$ HK; iintro HK
  iapply (wp_store 𝒱₀ (c : Thread nD τ) none Set.univ (m := Memref.whole cc0_scratch1) (r := rAll) (Mk := Finset.univ) (Finset.subset_univ _)) $$ HK; iintro HK
  iapply (wp_load_rect 𝒱₀ (c : Thread nD τ) none Set.univ (m := Memref.whole cc0_stg2_0) (r := rAll) (Finset.subset_univ _)) $$ H2; iintro H2
  iapply (wp_load_rect 𝒱₀ (c : Thread nD τ) none Set.univ (m := Memref.whole cc0_stg0_0) (r := rAll) (Finset.subset_univ _)) $$ H0; iintro H0
  iapply (wp_load_rect 𝒱₀ (c : Thread nD τ) none Set.univ (m := Memref.whole cc0_stg3_0) (r := rAll) (Finset.subset_univ _)) $$ H3; iintro H3
  iapply (wp_load_rect 𝒱₀ (c : Thread nD τ) none Set.univ (m := Memref.whole cc0_stg1_0) (r := rAll) (Finset.subset_univ _)) $$ H1; iintro H1
  iapply (wp_load_rect 𝒱₀ (c : Thread nD τ) none Set.univ (m := Memref.whole cc0_scratch0) (r := rAll) (Finset.subset_univ _)) $$ HA; iintro HA
  iapply (wp_store 𝒱₀ (c : Thread nD τ) none Set.univ (m := Memref.whole cc0_scratch0) (r := rAll) (Mk := Finset.univ) (Finset.subset_univ _)) $$ HA; iintro HA
  have w4 : ∀ w, View.write (Elt Ideal) ((Memref.whole cc0_stg4_0).access rOut) O w Finset.univ = w :=
    fun w => Memref.write_access_unit_zero_univ (Elt Ideal) cc0_stg4_0 off_zero _ O w
  have wA : ∀ w, View.write (Elt Ideal) ((Memref.whole cc0_scratch0).access rAll) A w Finset.univ = w :=
    fun w => Memref.write_access_unit_zero_univ (Elt Ideal) cc0_scratch0 off_zero _ A w
  have wK : ∀ w, View.write (Elt Ideal) ((Memref.whole cc0_scratch1).access rAll) K w Finset.univ = w :=
    fun w => Memref.write_access_unit_zero_univ (Elt Ideal) cc0_scratch1 off_zero _ K w
  have r0 : View.read (Elt Ideal) ((Memref.whole cc0_stg0_0).access rAll) X1 = X1 :=
    Memref.read_access_unit_zero (Elt Ideal) cc0_stg0_0 off_zero _ X1
  have r1 : View.read (Elt Ideal) ((Memref.whole cc0_stg1_0).access rAll) Y1 = Y1 :=
    Memref.read_access_unit_zero (Elt Ideal) cc0_stg1_0 off_zero _ Y1
  have r2 : View.read (Elt Ideal) ((Memref.whole cc0_stg2_0).access rAll) X2 = X2 :=
    Memref.read_access_unit_zero (Elt Ideal) cc0_stg2_0 off_zero _ X2
  have r3 : View.read (Elt Ideal) ((Memref.whole cc0_stg3_0).access rAll) Y2 = Y2 :=
    Memref.read_access_unit_zero (Elt Ideal) cc0_stg3_0 off_zero _ Y2
  rw [w4, wA, wK, r0, r1, r2, r3]
  simp only [shapeCast_id]
  rw [zero_row X1 Y1 X2 Y2, zero_out X1 Y1 X2 Y2, areaRow_eq, wp_ret]
  imodintro
  isplitl [H0]; · iexact H0
  isplitl [H1]; · iexact H1
  isplitl [H2]; · iexact H2
  isplitl [H3]; · iexact H3
  isplitl [H4]; · iexact H4
  isplitl [HA]; · iexact HA
  iexact HK

/-- The kernel's body leaves the greedy choice of all 5120 boxes in the result. -/
theorem body_run (h0 : (Memref.whole cc0_stg0_0).IsWhole) (h1 : (Memref.whole cc0_stg1_0).IsWhole)
    (h2 : (Memref.whole cc0_stg2_0).IsWhole) (h3 : (Memref.whole cc0_stg3_0).IsWhole) (h4 : (Memref.whole cc0_stg4_0).IsWhole)
    (h5 : (Memref.whole cc0_scratch0).IsWhole) (h6 : (Memref.whole cc0_scratch1).IsWhole)
    (O : FVec Ideal S40x128 .f32) (A K : FVec Ideal S1x5120 .f32) :
    St c X1 Y1 X2 Y2 O A K
      ⊢ wp frame (wpE (defs₀ (F := Ideal)) 𝒱₀ (c : Thread nD τ) none) Set.univ
        (cc0__nms_kernel (F := Ideal) (Memref.whole cc0_stg0_0) h0 (Memref.whole cc0_stg1_0) h1 (Memref.whole cc0_stg2_0) h2
          (Memref.whole cc0_stg3_0) h3 (Memref.whole cc0_stg4_0) h4 (Memref.whole cc0_scratch0) h5 (Memref.whole cc0_scratch1) h6)
        (fun _ => St c X1 Y1 X2 Y2 (outAt X1 Y1 X2 Y2 40) (areas X1 Y1 X2 Y2) (keepAt X1 Y1 X2 Y2 40)) := by
  rw [body_eq, wp_bind]
  have hb := blocks_run c X1 Y1 X2 Y2 _ 0 consec_all
  simp only [List.length_cons, List.length_nil, Nat.zero_add, Nat.reduceAdd] at hb
  refine (prelude_run c X1 Y1 X2 Y2 O A K).trans (wp_mono _ _ _ fun _ => ?_)
  dsimp only
  exact hb

end Run

end Cert.Proof.K

end
-- ==== Proof.K.Run.lean ====
/-
  The kernel's whole run: the host operations before the call, the call, the host operations after it.

  Every weakly fair execution ends, faultlessly, with every counter at zero, and each buffer then holds what the
  operations after the call compute from the arrays that the call leaves: its result is the greedy choice among the
  boxes whose coordinates stand in its four operands.
-/
module

public import proofs.«01_k».proof.Proof.K.Sweep
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.Value

@[expose] public section

noncomputable section

namespace Cert.Proof.K

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-- What core `c`'s buffers hold when the call is reached. -/
abbrev V0 (c : Dev nD) : Valuation τ sig (Elt Ideal) := StableHlo.after (List.flatten [hostOps0]) (fun b => m (c, b))

/-- The same, at a reference. -/
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  repeat' apply And.intro
  all_goals rfl

theorem hostOps1_fresh : (hostOps1 : List (HloOp τ sig (Elt Ideal))).Forall fun op => op.fresh = ∅ := by
  repeat' apply And.intro
  all_goals rfl

/-- The program around its call. -/
theorem hmain : Pipeline.HMainK (Ix := Unit) (Name := ℕ) (U := UR sig nD τ) (Lvl := ℕ) cfgs 0 defs₀ 𝒱₀ m (main (F := Ideal)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 (launch0 (F := Ideal)).win.arr_unscoped]
  intro ops hops op hop
  obtain rfl := List.mem_singleton.mp hops
  exact Pipeline.sub_ucRefs op ((List.forall_iff_forall_mem.mp hostOps1_sub) op hop)

theorem sfx_fresh : ∀ ops ∈ ([hostOps1] : List (List (HloOp τ sig (Elt Ideal)))), ∀ op ∈ ops, op.fresh = ∅ := by
  intro ops hops op hop
  obtain rfl := List.mem_singleton.mp hops
  exact (List.forall_iff_forall_mem.mp hostOps1_fresh) op hop

/-- The operations after the call write none of its arrays. -/
theorem sfx_keeps : ∀ ops ∈ ([hostOps1] : List (List (HloOp τ sig (Elt Ideal)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl | rfl | rfl | rfl
  all_goals
    intro w
    fin_cases w <;>
      simp only [StableHlo.unary_writes, StableHlo.binary_writes, StableHlo.nullary_writes, StableHlo.reshape_writes,
        Finset.mem_singleton] <;> exact StableHlo.devRef_ne_of_ne (by decide)

/-! ### The call's data -/

/-- What the call's first four operands hold: the coordinates of the sorted boxes. -/
abbrev rowX1 (c : Dev nD) : FVec Ideal S1x5120 .f32 := V m c main_v15
abbrev rowY1 (c : Dev nD) : FVec Ideal S1x5120 .f32 := V m c main_v16
abbrev rowX2 (c : Dev nD) : FVec Ideal S1x5120 .f32 := V m c main_v17
abbrev rowY2 (c : Dev nD) : FVec Ideal S1x5120 .f32 := V m c main_v18

/-- The greedy choice, as the call leaves it. -/
abbrev kept (c : Dev nD) : FVec Ideal S40x128 .f32 := outAt (rowX1 m c) (rowY1 m c) (rowX2 m c) (rowY2 m c) 40

/-- The call's proof data: the operands staged whole, the result the greedy choice. -/
def dats (_ : Fin 1) (c : Dev nD) : Dat τ (Elt Ideal) Unit ℕ (UR sig nD τ) ℕ (cfg0 (F := Ideal)) c where
  A w := V m c (Pipeline.arrRef spec0 w)
  after w _ := match w with
    | ⟨0, _⟩ => rowX1 m c
    | ⟨1, _⟩ => rowY1 m c
    | ⟨2, _⟩ => rowX2 m c
    | ⟨3, _⟩ => rowY2 m c
    | ⟨4, _⟩ => kept m c
  Φ _ := Pipeline.ΦA spec0 c
  q _ := fullShare
  owed _ := 0

theorem A_eq (c : Dev nD) (w : Fin (cfg0 (F := Ideal)).W) : (dats m 0 c).A w = V m c (Pipeline.arrRef spec0 w) := by
  dsimp only [dats]

/-- The call stages each array whole. -/
theorem blk_emb (w : Fin 5) (y : (((cfg0 (F := Ideal)).win w).xblock ((cfg0 (F := Ideal)).grid.coords t0_0)).Idx) :
    ∀ a, ((((cfg0 (F := Ideal)).win w).rect t0_0).emb y a : ℕ) = y a := fun a =>
  Pipeline.Window.rect_emb_val_of_index_zero _ _ a (by fin_cases w <;> (revert a; decide)) y

theorem moved (w : Fin 5) (j : ((cfg0 (F := Ideal)).win w).block.Idx) :
    ((cfg0 (F := Ideal)).win w).moved ((cfg0 (F := Ideal)).grid.coords t0_0) j = true :=
  (((cfg0 (F := Ideal)).win w).moved_iff _ j).mpr fun a => by
    have := (j a).isLt
    unfold Pipeline.Window.xsize
    rw [show ((cfg0 (F := Ideal)).win w).clip ((cfg0 (F := Ideal)).grid.coords t0_0) a = none from by fin_cases w <;> rfl]
    exact this

/-- A whole array, read as the block that the call stages, is the array. -/
theorem blk_read0 (f : FVec Ideal S1x5120 .f32) (y : S1x5120.Idx) :
    (((cfg0 (F := Ideal)).win 0).blk t0_0).view.read (Elt Ideal) f y = f y :=
  congrArg f (funext fun a => Fin.ext (blk_emb 0 y a))
theorem blk_read1 (f : FVec Ideal S1x5120 .f32) (y : S1x5120.Idx) :
    (((cfg0 (F := Ideal)).win 1).blk t0_0).view.read (Elt Ideal) f y = f y :=
  congrArg f (funext fun a => Fin.ext (blk_emb 1 y a))
theorem blk_read2 (f : FVec Ideal S1x5120 .f32) (y : S1x5120.Idx) :
    (((cfg0 (F := Ideal)).win 2).blk t0_0).view.read (Elt Ideal) f y = f y :=
  congrArg f (funext fun a => Fin.ext (blk_emb 2 y a))
theorem blk_read3 (f : FVec Ideal S1x5120 .f32) (y : S1x5120.Idx) :
    (((cfg0 (F := Ideal)).win 3).blk t0_0).view.read (Elt Ideal) f y = f y :=
  congrArg f (funext fun a => Fin.ext (blk_emb 3 y a))

/-- The fetched buffer holds the operand. -/
theorem before_in0 (c : Dev nD) (d : ((cfg0 (F := Ideal)).win 0).block.Idx → Elt Ideal ((cfg0 (F := Ideal)).win 0).elt) :
    (dats m 0 c).before 0 t0_0 d = rowX1 m c := by
  unfold Dat.before; rw [if_pos (fetch0_0 t0_0)]
  funext y
  unfold Dat.fetched Pipeline.Window.fill
  rw [dif_pos (moved 0 y)]
  have hA : (dats m 0 c).A 0 = V m c main_v15 := A_eq m c 0
  unfold Dat.blockOf
  rw [hA]
  unfold rowX1
  generalize V m c main_v15 = f
  exact blk_read0 f y

theorem before_in1 (c : Dev nD) (d : ((cfg0 (F := Ideal)).win 1).block.Idx → Elt Ideal ((cfg0 (F := Ideal)).win 1).elt) :
    (dats m 0 c).before 1 t0_0 d = rowY1 m c := by
  unfold Dat.before; rw [if_pos (fetch0_1 t0_0)]
  funext y
  unfold Dat.fetched Pipeline.Window.fill
  rw [dif_pos (moved 1 y)]
  have hA : (dats m 0 c).A 1 = V m c main_v16 := A_eq m c 1
  unfold Dat.blockOf
  rw [hA]
  unfold rowY1
  generalize V m c main_v16 = f
  exact blk_read1 f y

theorem before_in2 (c : Dev nD) (d : ((cfg0 (F := Ideal)).win 2).block.Idx → Elt Ideal ((cfg0 (F := Ideal)).win 2).elt) :
    (dats m 0 c).before 2 t0_0 d = rowX2 m c := by
  unfold Dat.before; rw [if_pos (fetch0_2 t0_0)]
  funext y
  unfold Dat.fetched Pipeline.Window.fill
  rw [dif_pos (moved 2 y)]
  have hA : (dats m 0 c).A 2 = V m c main_v17 := A_eq m c 2
  unfold Dat.blockOf
  rw [hA]
  unfold rowX2
  generalize V m c main_v17 = f
  exact blk_read2 f y

theorem before_in3 (c : Dev nD) (d : ((cfg0 (F := Ideal)).win 3).block.Idx → Elt Ideal ((cfg0 (F := Ideal)).win 3).elt) :
    (dats m 0 c).before 3 t0_0 d = rowY2 m c := by
  unfold Dat.before; rw [if_pos (fetch0_3 t0_0)]
  funext y
  unfold Dat.fetched Pipeline.Window.fill
  rw [dif_pos (moved 3 y)]
  have hA : (dats m 0 c).A 3 = V m c main_v18 := A_eq m c 3
  unfold Dat.blockOf
  rw [hA]
  unfold rowY2
  generalize V m c main_v18 = f
  exact blk_read3 f y

/-- The call's body, from what it is handed to what it leaves. -/
theorem body_obligation (c : Dev nD) : BodyObligation (dats m 0 c) (defs₀ (F := Ideal)) 𝒱₀ () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA Dat.owesAt Pipeline.owesWithin; rw [scopedRest0_eq]
  rw [show (dats m 0 c).owed t0_0.castSucc = 0 from rfl, show (dats m 0 c).owed t0_0.succ = 0 from rfl]
  iintro ⟨⟨⟨⟨%A, HA⟩, ⟨%K, HK⟩⟩, Hp⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_in0] at hf0
  rw [before_in1] at hf1
  rw [before_in2] at hf2
  rw [before_in3] at hf3
  subst hf0 hf1 hf2 hf3
  ihave Hw := (body_run c (rowX1 m c) (rowY1 m c) (rowX2 m c) (rowY2 m c) (hstage0_0 0) (hstage0_1 0) (hstage0_2 0) (hstage0_3 0) (hstage0_4 0) (Memref.isWhole_whole _) (Memref.isWhole_whole _) f4 A K) $$ [H0 H1 H2 H3 H4 HA HK]
  · unfold St
    isplitl [H0]; · iexact H0
    isplitl [H1]; · iexact H1
    isplitl [H2]; · iexact H2
    isplitl [H3]; · iexact H3
    isplitl [H4]; · iexact H4
    isplitl [HA]; · iexact HA
    iexact HK
  ihave Hv := (wp_wand _ _ _) $$ Hw
  iapply Hv
  iintro %_ HS
  unfold St
  icases HS with ⟨H0, H1, H2, H3, H4, HA, HK⟩
  isplitl [HA HK Hp]
  · isplitr [Hp]
    · isplitl [HA]
      · iexists _; iexact HA
      iexists _; iexact HK
    iexact Hp
  isplitl [HO]
  · iexists W; isplitr; · ipureintro; exact fun _ _ => Or.inl trivial
    iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  iexists _; isplitr; swap; (· iexact H4); ipureintro; dsimp only [dats]

/-! ### The run -/

/-- The call's result after the call. -/
theorem arr_out (c : Dev nD) : (dats m 0 c).arrAt 4 (cfg0 (F := Ideal)).N = kept m c := by
  funext y
  have h := (dats m 0 c).arrAt_emb_eq_flushed 4 (fun t t' _ _ hne => absurd ((fin_N0 t).trans (fin_N0 t').symm) hne) t0_0 (flush0_4 t0_0) y
  have e : ((((cfg0 (F := Ideal)).win 4).blk t0_0).view.emb y) = y := funext fun a => Fin.ext (blk_emb 4 y a)
  rw [e] at h
  exact h

/-- What a buffer holds at the end: what the last operations compute from the call's arrays and the rest. -/
abbrev final (c : Dev nD) (b : Ref sig .tc) : Buf (Elt Ideal) ((c : Thread nD τ).loc b) :=
  Pipeline.afterTail₀ cfgs (dats m) 0 (V0 m) [hostOps1] c b

set_option backward.isDefEq.respectTransparency.types false in
/-- Every execution ends, faultlessly, with the counters at zero, the arrays of the call as it leaves them, and every
    other buffer as the last operations leave it. -/
theorem run_main : θ_run (Cert.KernelIdeal.defs (F := Ideal)) (onTc (τ := τ) (main (F := Ideal))) ⟨m, fun _ => 0, ρ⟩
    (fun r => Pipeline.FramePost cfgs (dats m) 0 (final m) r ∧ r.2.sem = fun _ => 0) :=
  Pipeline.θ_run_frame_around cfgs (dats m) 0 launch0 defs₀ 𝒱₀ m ρ main (fun c => (body_obligation m c).loose)
    (fun c => (dats m 0 c).share_full fun _ => rfl) (fun _ _ => rfl) (V0 m) [hostOps1] sfx_sub sfx_fresh sfx_keeps (hmain m)
    (A_eq m) (fun _ _ => rfl) _ (fun _ h => h)

end Cert.Proof.K

end
-- ==== Proof.K.Frame.lean ====
/-
  The kernel's frame: it ends faultlessly, its arguments unchanged and its counters at zero.
-/
module

public import proofs.«01_k».proof.Defs
public import proofs.«01_k».proof.Proof.K.Run

@[expose] public section

noncomputable section

namespace Cert.Proof.K

open Cert.KernelIdeal Cert.KernelIdeal.Gen Cert.Proof
open Idealize.ShloMosaic
open Idealize.ShloMosaic.TcCoe
open Idealize.SL.Sem

variable (m : (ℓ : Loc nD τ sig) → Buf (Elt Ideal) ℓ) (ρ : Dev nD → PrngReg)

/-- No operation before the call writes an argument. -/
theorem pre_keeps (b : Ref sig .tc) (hb : b = main_arg0 ∨ b = main_arg1) :
    ∀ op ∈ (hostOps0 (F := Ideal)), Proc.devRef .tc b ∉ op.writes := by
  intro op hop
  simp only [hostOps0, List.mem_cons, List.mem_nil_iff, or_false] at hop
  rcases hb with rfl | rfl <;>
  rcases hop with rfl | rfl | rfl | rfl | rfl | rfl | rfl | rfl | rfl | rfl | rfl | rfl | rfl | rfl | rfl | rfl | rfl | rfl | rfl | rfl |
    rfl | rfl | rfl | rfl | rfl | rfl <;>
    simp only [StableHlo.unary_writes, StableHlo.binary_writes, StableHlo.nullary_writes, StableHlo.reshape_writes, StableHlo.nary_writes,
      Finset.mem_singleton] <;> exact StableHlo.devRef_ne_of_ne (by decide)

/-- Nor does one after it. -/
theorem post_keeps (b : Ref sig .tc) (hb : b = main_arg0 ∨ b = main_arg1) :
    ∀ op ∈ (hostOps1 (F := Ideal)), Proc.devRef .tc b ∉ op.writes := by
  intro op hop
  simp only [hostOps1, List.mem_cons, List.mem_nil_iff, or_false] at hop
  rcases hb with rfl | rfl <;>
  rcases hop with rfl | rfl | rfl | rfl | rfl | rfl | rfl | rfl | rfl <;>
    simp only [StableHlo.unary_writes, StableHlo.binary_writes, StableHlo.nullary_writes, StableHlo.reshape_writes,
      Finset.mem_singleton] <;> exact StableHlo.devRef_ne_of_ne (by decide)

/-- An argument reaches the call as it was given. -/
theorem V_arg (c : Dev nD) (b : Ref sig .tc) (hb : b = main_arg0 ∨ b = main_arg1) : V m c b = m ((c : Thread nD τ).loc b) :=
  StableHlo.after_of_forall_not_mem (b := Proc.devRef .tc b) _ (fun b => m (c, b))
    (by simpa only [List.flatten_cons, List.flatten_nil, List.append_nil] using pre_keeps b hb)

/-- An argument is at the end what it was. -/
theorem final_arg (c : Dev nD) (b : Ref sig .tc) (hb : b = main_arg0 ∨ b = main_arg1) : final m c b = m ((c : Thread nD τ).loc b) := by
  unfold final Pipeline.afterTail₀
  rw [StableHlo.after_of_forall_not_mem (b := Proc.devRef .tc b) _ _
    (by simpa only [List.flatten_cons, List.flatten_nil, List.append_nil] using post_keeps b hb)]
  rw [Pipeline.withArrays_of_ne _ c _ _ b (by rcases hb with rfl | rfl <;> decide)]
  exact V_arg m c b hb

theorem rest_arg0 : main_arg0 ∈ Pipeline.restRefs sig spec0 := by decide
theorem rest_arg1 : main_arg1 ∈ Pipeline.restRefs sig spec0 := by decide
theorem rest_v24 : main_v24 ∈ Pipeline.restRefs sig spec0 := by decide
theorem rest_v26 : main_v26 ∈ Pipeline.restRefs sig spec0 := by decide

/-- The kernel's frame. -/
theorem quiescent : Cert.quiescent_KernelIdeal (hKernelIdeal := Cert.KernelIdeal.Gen.facts) := fun m ρ _ =>
  (θ_run _ _ _).mono (fun r h => ⟨fun c =>
    ⟨((h.1 c).2 main_arg0 rest_arg0).trans (final_arg m c _ (.inl rfl)), ((h.1 c).2 main_arg1 rest_arg1).trans (final_arg m c _ (.inr rfl))⟩, h.2⟩)
    (run_main m ρ)

end Cert.Proof.K

end
-- ==== Proof.R.Frame.lean ====
/-
  The reference's frame: it ends faultlessly, its arguments unchanged and its counters at zero.
-/
module

public import proofs.«01_k».proof.Defs
public import proofs.«01_k».proof.Proof.Gen.ReferenceIdeal.Run

@[expose] public section

noncomputable section

namespace Cert.Proof.R

open Cert.ReferenceIdeal Cert.ReferenceIdeal.Gen Cert.ReferenceIdeal.Value
open Idealize.ShloMosaic
open Idealize.ShloMosaic.TcCoe
open Idealize.SL.Sem

/-- The reference has no semaphore. -/
theorem no_sems (s : GSem nD τ sig → ℤ) : s = fun _ => 0 :=
  funext fun g => by
    rcases g with ⟨_, s | s⟩
    · exact s.elim0
    · exact s.elim0

/-- What the operations after the loop write. -/
abbrev post_W : List (Ref sig .tc) :=
  [main_c_6, main_v75, main_c_7, main_v76, main_v77, main_c_8, main_v78, main_v79, main_v80, main_v81, main_v82, main_v83, main_v84]

theorem post_writes : (hostOps0_3 : List (HloOp τ sig (Elt Ideal))).Forall fun op =>
    op.writes ⊆ (post_W.map (Proc.devRef (τ := τ) .tc)).toFinset := StableHlo.forall_writes_sub_of_map rfl

variable (m : (ℓ : Loc nD τ sig) → Buf (Elt Ideal) ℓ)

/-- What no trip writes is after `k` trips what it was on entry. -/
theorem trips_keep (c : Dev nD) {b : Ref sig .tc} (hb : b ∉ while0Ops0_W) (hc : b ∉ condOps_W) (k : ℕ) :
    atK m k c (Proc.devRef .tc b) = StableHlo.entryContents preI m c (Proc.devRef .tc b) := by
  induction k with
  | zero => rfl
  | succ k ih =>
    refine (StableHlo.after_of_writes_sub while0Ops0 _ while0Ops0_writes hb).trans ?_
    exact (StableHlo.after_of_writes_sub condOps _ condOps_writes hc).trans ih

/-- What neither a trip nor the operations after the loop write is at the end what it was on entry to the loop. -/
theorem final_keep (c : Dev nD) {b : Ref sig .tc} (hb : b ∉ while0Ops0_W) (hc : b ∉ condOps_W) (hp : b ∉ post_W) :
    StableHlo.finalContents condOps preI bodyI postI 5000 m c (Proc.devRef .tc b) = StableHlo.entryContents preI m c (Proc.devRef .tc b) := by
  refine (StableHlo.after_of_writes_sub hostOps0_3 _ post_writes hp).trans ?_
  exact (StableHlo.after_of_writes_sub condOps _ condOps_writes hc).trans (trips_keep m c hb hc 5000)

/-- An argument reaches the loop as it was given. -/
theorem entry_arg (c : Dev nD) (b : Ref sig .tc) (hb : b = main_arg0 ∨ b = main_arg1) :
    StableHlo.entryContents preI m c (Proc.devRef .tc b) = m ((c : Thread nD τ).loc b) := by
  refine (StableHlo.after_of_writes_sub hostOps0_2 _ hostOps0_2_writes (by rcases hb with rfl | rfl <;> decide +kernel)).trans ?_
  refine (StableHlo.after_of_writes_sub hostOps0_1 _ hostOps0_1_writes (by rcases hb with rfl | rfl <;> decide +kernel)).trans ?_
  exact (StableHlo.after_of_writes_sub hostOps0 _ hostOps0_writes (by rcases hb with rfl | rfl <;> decide +kernel)).trans rfl

/-- An argument is at the end what it was. -/
theorem final_arg (c : Dev nD) (b : Ref sig .tc) (hb : b = main_arg0 ∨ b = main_arg1) :
    StableHlo.finalContents condOps preI bodyI postI 5000 m c (Proc.devRef .tc b) = m ((c : Thread nD τ).loc b) :=
  (final_keep m c (by rcases hb with rfl | rfl <;> decide +kernel) (by rcases hb with rfl | rfl <;> decide +kernel)
    (by rcases hb with rfl | rfl <;> decide +kernel)).trans (entry_arg m c b hb)

/-- The reference's frame. -/
theorem quiescent : Cert.quiescent_ReferenceIdeal (hReferenceIdeal := Cert.ReferenceIdeal.Gen.facts) := fun m ρ _ =>
  (θ_run _ _ _).mono (fun r h => ⟨fun c =>
    ⟨(h c main_arg0 rfl).trans (final_arg m c _ (.inl rfl)), (h c main_arg1 rfl).trans (final_arg m c _ (.inr rfl))⟩, no_sems r.2.sem⟩)
    (run_fold m ρ)

end Cert.Proof.R

end
-- ==== Proof.Sorting.lean ====
/-
  Facts on sorting: elements that sort behind all others stay behind, so a padded list's sort begins with the list's own;
  and sorting a permutation's places by where it sends them undoes it.
-/
module

public import Idealize.ShloMosaic.Lib.SortFacts

@[expose] public section

namespace Cert.Proof

open Idealize.ShloMosaic

variable {ι κ : Type}

/-- Elements none of which goes before `a` don't matter to `a`'s place. -/
theorem insert_append (R : ι → ι → Bool) (a : ι) (l r : List ι) (h : ∀ b ∈ r, R b a = false) :
    insertBefore R a (l ++ r) = insertBefore R a l ++ r := by
  induction l with
  | nil =>
    cases r with
    | nil => rfl
    | cons b r => simp [insertBefore, h b (by simp)]
  | cons b l ih =>
    simp only [List.cons_append, insertBefore]
    split
    · rw [ih, List.cons_append]
    · rfl

/-- A list followed by elements none of which goes before any of it sorts part by part. -/
theorem sort_append (R : ι → ι → Bool) (l r : List ι) (h : ∀ a ∈ l, ∀ b ∈ r, R b a = false) :
    stableSort R (l ++ r) = stableSort R l ++ stableSort R r := by
  induction l with
  | nil => rfl
  | cons a l ih =>
    show insertBefore R a (stableSort R (l ++ r)) = insertBefore R a (stableSort R l) ++ stableSort R r
    rw [ih fun a' ha' => h a' (List.mem_cons_of_mem _ ha')]
    exact insert_append R a _ _ fun b hb => h a (List.mem_cons_self ..) b ((perm_stableSort R r).mem_iff.mp hb)

theorem insert_map (f : κ → ι) (R : ι → ι → Bool) (a : κ) (l : List κ) :
    insertBefore R (f a) (l.map f) = (insertBefore (fun x y => R (f x) (f y)) a l).map f := by
  induction l with
  | nil => rfl
  | cons b l ih =>
    simp only [List.map_cons, insertBefore]
    split
    · rw [ih, List.map_cons]
    · rfl

/-- Sorting renamed elements is renaming sorted ones. -/
theorem sort_map (f : κ → ι) (R : ι → ι → Bool) (l : List κ) :
    stableSort R (l.map f) = (stableSort (fun x y => R (f x) (f y)) l).map f := by
  induction l with
  | nil => rfl
  | cons a l ih =>
    show insertBefore R (f a) (stableSort R (l.map f)) = (insertBefore (fun x y => R (f x) (f y)) a (stableSort (fun x y => R (f x) (f y)) l)).map f
    rw [ih, insert_map]

/-- The places up to `n + d` are those up to `n`, then `d` more. -/
theorem places_add (n d : ℕ) :
    List.finRange (n + d) = (List.finRange n).map (Fin.castAdd d) ++ (List.finRange d).map (Fin.natAdd n) := by
  refine List.ext_getElem (by simp) fun i h1 h2 => ?_
  rw [List.getElem_append]
  split
  · simp
  · rename_i h
    refine Fin.ext ?_
    simp at h ⊢
    omega

/-- If no place from `n` on goes before one below `n`, the sort's first `n` are the sort of the first `n`. -/
theorem sortedFrom_pad {n N : ℕ} (hn : n ≤ N) (R : Fin N → Fin N → Bool)
    (h : ∀ a b : Fin N, a.val < n → n ≤ b.val → R b a = false) (i : Fin n) :
    sortedFrom R (i.castLE hn) = (sortedFrom (fun a b => R (a.castLE hn) (b.castLE hn)) i).castLE hn := by
  obtain ⟨d, rfl⟩ := Nat.exists_eq_add_of_le hn
  have e : sortPositions (n + d) R = (sortPositions n fun a b => R (a.castLE hn) (b.castLE hn)).map (Fin.castLE hn)
      ++ stableSort R ((List.finRange d).map (Fin.natAdd n)) := by
    unfold sortPositions
    rw [places_add, sort_append]
    · rw [sort_map]; rfl
    · intro a ha b hb
      obtain ⟨a, -, rfl⟩ := List.mem_map.mp ha
      obtain ⟨b, -, rfl⟩ := List.mem_map.mp hb
      exact h _ _ (by simp) (by simp)
  unfold sortedFrom
  rw [List.get_of_eq e, List.get_eq_getElem, List.getElem_append_left (by simp [length_sortPositions])]
  simp

/-- Sorting the places by where `τ` sends them undoes `τ`. -/
theorem sortedFrom_undo {N : ℕ} (τ : Fin N → Fin N) (hτ : Function.Bijective τ) (p : Fin N) :
    sortedFrom (fun a b => decide (τ a < τ b)) (τ p) = p := by
  have e := sortPositions_of_perm (Equiv.ofBijective τ hτ).symm
  simp only [Equiv.symm_symm, Equiv.ofBijective_apply] at e
  unfold sortedFrom
  rw [List.get_of_eq e]
  simp only [List.get_eq_getElem, List.getElem_ofFn]
  exact (Equiv.ofBijective τ hτ).symm_apply_apply p

/-- A stable sort's places are a permutation. -/
theorem sortedFrom_bijective {N : ℕ} (R : Fin N → Fin N → Bool) : Function.Bijective (sortedFrom R) :=
  ⟨sortedFrom_injective R, sortedFrom_surjective R⟩

end Cert.Proof
-- ==== Proof.Order.lean ====
/-
  The order of the boxes and the choice made in it: the boxes go by falling score, equal scores in the given order, and a
  box is chosen unless a chosen one before it overlaps it too much.
-/
module

public import proofs.«01_k».proof.Proof.Greedy
public import proofs.«01_k».proof.Proof.Sorting

@[expose] public section

noncomputable section

namespace Cert.Proof

open Idealize.ShloMosaic

open Classical in
/-- The `i`-th box in order. -/
def order (s : Fin 5000 → EReal) : Fin 5000 → Fin 5000 := sortedFrom fun a b => decide (-(s a) < -(s b))

theorem order_bijective (s : Fin 5000 → EReal) : Function.Bijective (order s) := sortedFrom_bijective _

/-- The `j`-th box in order overlaps the `k`-th too much. -/
def Sup (b : Fin 5000 → Fin 4 → EReal) (s : Fin 5000 → EReal) (j k : ℕ) : Prop := ∃ (hj : j < 5000) (hk : k < 5000),
  Hits (b (order s ⟨j, hj⟩) 0) (b (order s ⟨j, hj⟩) 1) (b (order s ⟨j, hj⟩) 2) (b (order s ⟨j, hj⟩) 3)
    (b (order s ⟨k, hk⟩) 0) (b (order s ⟨k, hk⟩) 1) (b (order s ⟨k, hk⟩) 2) (b (order s ⟨k, hk⟩) 3)

/-- The `k`-th box in order is chosen. -/
def Chosen (b : Fin 5000 → Fin 4 → EReal) (s : Fin 5000 → EReal) (k : ℕ) : Prop := Kept (Sup b s) k

/-- A sort by a float key that carries other things: zeros are made equal first and what is no number is sent last, but
    over the extended reals neither changes a key. -/
theorem key_lt (x y : Ideal .f32) (z z' z'' z''' : Ideal .f32) :
    (FloatOps.cmpfTotal .lt (Scalar.select (FloatOps.cmpf .une x x) z (Scalar.select (FloatOps.cmpf .oeq x z') z' x))
        (Scalar.select (FloatOps.cmpf .une y y) z'' (Scalar.select (FloatOps.cmpf .oeq y z''') z''' y)) : BitVec 1) = 1#1 ↔
      (x : EReal) < y := by
  have one : ∀ (x z z' : Ideal .f32),
      Scalar.select (FloatOps.cmpf .une x x) z (Scalar.select (FloatOps.cmpf .oeq x z') z' x) = x := by
    intro x z z'
    show (if Ideal.cmp .une x x = 1#1 then z else if Ideal.cmp .oeq x z' = 1#1 then z' else x) = x
    by_cases h : (x : EReal) = z' <;> simp [Ideal.cmp, h]
  rw [one, one]
  show Ideal.cmp .olt x y = 1#1 ↔ _
  by_cases h : (x : EReal) < y <;> simp [Ideal.cmp, h]

end Cert.Proof

end
-- ==== Proof.K.Sorted.lean ====
/-
  The kernel's sort: what the four coordinate rows and the row of indices hold when the call is reached.

  The 5000 boxes are padded to 5120 with keys that sort behind every other; the first 5000 places of the sort are then the
  order of the 5000 boxes by falling score, ties in the given order.
-/
module

public import proofs.«01_k».proof.Proof.K.Frame
public import proofs.«01_k».proof.Proof.Order
public import Idealize.ShloMosaic.Lib.StableHlo.ReadAt
public import Idealize.ShloMosaic.Lib.Pointwise

@[expose] public section

noncomputable section

namespace Cert.Proof.K

open Cert.KernelIdeal Cert.KernelIdeal.Gen Cert.Proof
open Idealize.ShloMosaic
open Idealize.ShloMosaic.TcCoe

set_option maxRecDepth 16384

section Pure

variable (b : FVec Ideal S5000x4 .f32) (s : FVec Ideal S5000 .f32)

/-- The sort's keys: the scores negated, then the padding. -/
def keys : FVec Ideal S5120 .f32 :=
  concatenate S5120 0 [⟨S5000, Host.negf s⟩, ⟨S120, broadcastInDim S120 ![] bcast_S_S120 (constant (F := Ideal) S_ .f32 0x7F800000#32)⟩]
    concatenates_S5000_S120_S5120_d0

/-- The boxes, padded. -/
def padded : FVec Ideal S5120x4 .f32 :=
  concatenate S5120x4 0 [⟨S5000x4, b⟩, ⟨S120x4, broadcastInDim S120x4 ![] bcast_S_S120x4 (constant (F := Ideal) S_ .f32 0x00000000#32)⟩]
    concatenates_S5000x4_S120x4_S5120x4_d0

def colX1 : FVec Ideal S5120 .f32 :=
  shapeCast S5120 (extractStridedSlice S5120x1 ![0, 0] (padded b) slices_S5120x4_S5120x1_0_0) shapeCasts_S5120x1_S5120
def colY1 : FVec Ideal S5120 .f32 :=
  shapeCast S5120 (extractStridedSlice S5120x1 ![0, 1] (padded b) slices_S5120x4_S5120x1_0_1) shapeCasts_S5120x1_S5120
def colX2 : FVec Ideal S5120 .f32 :=
  shapeCast S5120 (extractStridedSlice S5120x1 ![0, 2] (padded b) slices_S5120x4_S5120x1_0_2) shapeCasts_S5120x1_S5120
def colY2 : FVec Ideal S5120 .f32 :=
  shapeCast S5120 (extractStridedSlice S5120x1 ![0, 3] (padded b) slices_S5120x4_S5120x1_0_3) shapeCasts_S5120x1_S5120

/-- What the comparator reads at a place: the key, the four coordinates, the index. -/
def rows : S5120.Idx → Ideal .f32 × Ideal .f32 × Ideal .f32 × Ideal .f32 × Ideal .f32 × BitVec 32 := fun j =>
  (keys s j, colX1 b j, colY1 b j, colX2 b j, colY2 b j, iotaInDim S5120 32 0 j)

/-- One operand of the sort, sorted. -/
def sorted {α : Type} (x : S5120.Idx → α) : S5120.Idx → α := Host.sortBy S5120 0 (comparator_f32_f32_f32_f32_f32_i32_d0 (F := Ideal)) (rows b s) x

theorem keys_apply (p : Fin 5120) : keys s (ix1 p) = if h : p.val < 5000 then -(s (ix1 ⟨p.val, h⟩) : EReal) else ⊤ := by
  have top : Ideal.ofBits FTy.f32 0x7F800000#32 = ⊤ := by simp [Ideal.ofBits, Ideal.ieee]
  unfold keys
  pointwise
  rw [top]

theorem colX1_apply (i : Fin 5000) : colX1 b (ix1 (i.castLE (by decide))) = b (ix2 i 0) := by
  unfold colX1 padded
  pointwise
  exact dif_pos i.isLt
theorem colY1_apply (i : Fin 5000) : colY1 b (ix1 (i.castLE (by decide))) = b (ix2 i 1) := by
  unfold colY1 padded
  pointwise
  exact dif_pos i.isLt
theorem colX2_apply (i : Fin 5000) : colX2 b (ix1 (i.castLE (by decide))) = b (ix2 i 2) := by
  unfold colX2 padded
  pointwise
  exact dif_pos i.isLt
theorem colY2_apply (i : Fin 5000) : colY2 b (ix1 (i.castLE (by decide))) = b (ix2 i 3) := by
  unfold colY2 padded
  pointwise
  exact dif_pos i.isLt

/-- Where the sort takes its `p`-th place from. -/
def place : Fin 5120 → Fin 5120 :=
  sortedFrom fun k k' => comparator_f32_f32_f32_f32_f32_i32_d0 (F := Ideal) (rows b s (ix1 k)) (rows b s (ix1 k')) == 1#1

theorem place_bijective : Function.Bijective (place b s) := sortedFrom_bijective _

theorem sorted_apply {α : Type} (x : S5120.Idx → α) (p : Fin 5120) : sorted b s x (ix1 p) = x (ix1 (place b s p)) := by
  have along (k : Fin 5120) : Shape.Idx.along (s := S5120) (ix1 p) (0 : Fin 1) k = ix1 k := by
    funext d
    obtain rfl : d = (0 : Fin 1) := Subsingleton.elim (α := Fin 1) _ _
    exact Function.update_self ..
  show x (Shape.Idx.along (s := S5120) (ix1 p) (0 : Fin 1) (sortedFrom (fun k k' : Fin 5120 =>
    comparator_f32_f32_f32_f32_f32_i32_d0 (F := Ideal) (rows b s (Shape.Idx.along (s := S5120) (ix1 p) (0 : Fin 1) k))
      (rows b s (Shape.Idx.along (s := S5120) (ix1 p) (0 : Fin 1) k')) == 1#1) p)) = _
  unfold place
  simp only [along]
  exact congrArg x (along _)

theorem before_iff (k k' : Fin 5120) :
    (comparator_f32_f32_f32_f32_f32_i32_d0 (F := Ideal) (rows b s (ix1 k)) (rows b s (ix1 k')) == 1#1)
      = decide ((keys s (ix1 k) : EReal) < keys s (ix1 k')) := by
  rw [Bool.eq_iff_iff, beq_iff_eq, decide_eq_true_iff]
  exact key_lt _ _ _ _ _ _

/-- The first 5000 places are the boxes in order. -/
theorem place_order (i : Fin 5000) :
    place b s (i.castLE (by decide)) = (order (fun i => s (ix1 i)) i).castLE (by decide) := by
  unfold place order
  simp only [before_iff]
  rw [sortedFrom_pad]
  · congr 3
    funext k k'
    rw [keys_apply, keys_apply, dif_pos (by simp), dif_pos (by simp)]
    rfl
  · intro p q hp hq
    rw [decide_eq_false_iff_not, keys_apply, keys_apply, dif_neg (by omega)]
    exact not_top_lt

end Pure

variable (m : (ℓ : Loc nD τ sig) → Buf (Elt Ideal) ℓ) (c : Dev nD)

abbrev boxes : FVec Ideal S5000x4 .f32 := m ((c : Thread nD τ).loc main_arg0)
abbrev scores : FVec Ideal S5000 .f32 := m ((c : Thread nD τ).loc main_arg1)

theorem V_idx : V m c main_v14_5 = sorted (boxes m c) (scores m c) (iotaInDim S5120 32 0) := by
  simp only [V, V0, List.flatten_cons, List.flatten_nil, List.append_nil]
  after_reads_simp
  rfl

theorem rowX1_eq : rowX1 m c = shapeCast S1x5120 (sorted (boxes m c) (scores m c) (colX1 (boxes m c))) shapeCasts_S5120_S1x5120 := by
  simp only [rowX1, V, V0, List.flatten_cons, List.flatten_nil, List.append_nil]
  after_reads_simp
  rfl
theorem rowY1_eq : rowY1 m c = shapeCast S1x5120 (sorted (boxes m c) (scores m c) (colY1 (boxes m c))) shapeCasts_S5120_S1x5120 := by
  simp only [rowY1, V, V0, List.flatten_cons, List.flatten_nil, List.append_nil]
  after_reads_simp
  rfl
theorem rowX2_eq : rowX2 m c = shapeCast S1x5120 (sorted (boxes m c) (scores m c) (colX2 (boxes m c))) shapeCasts_S5120_S1x5120 := by
  simp only [rowX2, V, V0, List.flatten_cons, List.flatten_nil, List.append_nil]
  after_reads_simp
  rfl
theorem rowY2_eq : rowY2 m c = shapeCast S1x5120 (sorted (boxes m c) (scores m c) (colY2 (boxes m c))) shapeCasts_S5120_S1x5120 := by
  simp only [rowY2, V, V0, List.flatten_cons, List.flatten_nil, List.append_nil]
  after_reads_simp
  rfl

/-- The boxes and the scores, as plain functions. -/
abbrev bx (i : Fin 5000) (k : Fin 4) : EReal := boxes m c (ix2 i k)
abbrev sc (i : Fin 5000) : EReal := scores m c (ix1 i)

/-- A sorted column, laid out as a row, at one of the first 5000 places. -/
theorem row_apply (x : FVec Ideal S5120 .f32) (i : Fin 5000) :
    shapeCast S1x5120 (sorted (boxes m c) (scores m c) x) shapeCasts_S5120_S1x5120 (ix2 0 (i.castLE (by decide)))
      = x (ix1 ((order (sc m c) i).castLE (by decide))) := by
  refine Eq.trans ?_ ((sorted_apply (boxes m c) (scores m c) x (i.castLE (by decide))).trans (by rw [place_order]))
  generalize sorted (boxes m c) (scores m c) x = y
  pointwise

theorem rowX1_apply (i : Fin 5000) : rowX1 m c (ix2 0 (i.castLE (by decide))) = bx m c (order (sc m c) i) 0 := by
  rw [rowX1_eq]; exact (row_apply m c _ i).trans (colX1_apply _ _)
theorem rowY1_apply (i : Fin 5000) : rowY1 m c (ix2 0 (i.castLE (by decide))) = bx m c (order (sc m c) i) 1 := by
  rw [rowY1_eq]; exact (row_apply m c _ i).trans (colY1_apply _ _)
theorem rowX2_apply (i : Fin 5000) : rowX2 m c (ix2 0 (i.castLE (by decide))) = bx m c (order (sc m c) i) 2 := by
  rw [rowX2_eq]; exact (row_apply m c _ i).trans (colX2_apply _ _)
theorem rowY2_apply (i : Fin 5000) : rowY2 m c (ix2 0 (i.castLE (by decide))) = bx m c (order (sc m c) i) 3 := by
  rw [rowY2_eq]; exact (row_apply m c _ i).trans (colY2_apply _ _)

/-- The overlap test on the rows is the overlap test on the boxes in order. -/
theorem over_iff (j k : ℕ) (hj : j < 5000) (hk : k < 5000) :
    Over (rowX1 m c) (rowY1 m c) (rowX2 m c) (rowY2 m c) j k ↔ Sup (bx m c) (sc m c) j k := by
  have e : ∀ (R : FVec Ideal S1x5120 .f32) (q : Fin 4) (_ : ∀ i : Fin 5000, R (ix2 0 (i.castLE (by decide))) = bx m c (order (sc m c) i) q)
      (j : ℕ) (hj : j < 5000) (hj' : j < 5120), R (ix2 0 ⟨j, hj'⟩) = bx m c (order (sc m c) ⟨j, hj⟩) q :=
    fun R q h j hj _ => h ⟨j, hj⟩
  have e0 := e _ 0 (rowX1_apply m c)
  have e1 := e _ 1 (rowY1_apply m c)
  have e2 := e _ 2 (rowX2_apply m c)
  have e3 := e _ 3 (rowY2_apply m c)
  unfold Over Sup
  generalize rowX1 m c = X1 at e0 ⊢
  generalize rowY1 m c = Y1 at e1 ⊢
  generalize rowX2 m c = X2 at e2 ⊢
  generalize rowY2 m c = Y2 at e3 ⊢
  constructor
  · rintro ⟨hj', hk', h⟩
    refine ⟨hj, hk, ?_⟩
    rwa [e0 j hj hj', e0 k hk hk', e1 j hj hj', e1 k hk hk', e2 j hj hj', e2 k hk hk', e3 j hj hj', e3 k hk hk'] at h
  · rintro ⟨_, _, h⟩
    have hj' : j < 5120 := by omega
    have hk' : k < 5120 := by omega
    refine ⟨hj', hk', ?_⟩
    rwa [e0 j hj hj', e0 k hk hk', e1 j hj hj', e1 k hk hk', e2 j hj hj', e2 k hk hk', e3 j hj hj', e3 k hk hk']

/-- What the call keeps below 5000 is what the greedy rule chooses. -/
theorem over_chosen (k : ℕ) (hk : k < 5000) :
    Kept (Over (rowX1 m c) (rowY1 m c) (rowX2 m c) (rowY2 m c)) k ↔ Chosen (bx m c) (sc m c) k :=
  kept_congr _ _ 5000 (fun j c' hj hc => over_iff m c j c' (hj.trans hc) hc) k hk

end Cert.Proof.K

end
-- ==== Proof.K.Result.lean ====
/-
  The kernel's results: after the call the row of kept boxes is sorted back by the boxes' own indices, so that a box's entry
  says whether the box was chosen.
-/
module

public import proofs.«01_k».proof.Proof.K.Sorted
public import Idealize.ShloMosaic.Lib.SortFacts
public import Idealize.ShloMosaic.Lib.StableHlo.Predicate

@[expose] public section

noncomputable section

namespace Cert.Proof.K

open Cert.KernelIdeal Cert.KernelIdeal.Gen Cert.Proof
open Idealize.ShloMosaic
open Idealize.ShloMosaic.TcCoe

set_option maxRecDepth 16384

/-- Signed order of two small words. -/
theorem slt_ofNat (a b : Fin 5120) : (IntOp.cmpi .slt (BitVec.ofNat 32 a.val) (BitVec.ofNat 32 b.val) : BitVec 1) = 1#1 ↔ a < b := by
  have ha := StableHlo.Predicate.toInt_ofNat_small a.val (by omega)
  have hb := StableHlo.Predicate.toInt_ofNat_small b.val (by omega)
  simp only [IntOp.cmpi, BitVec.slt, ha, hb]
  by_cases h : a < b <;> simp [h] <;> omega

/-- Sorting by the indices a sort has permuted puts everything back. -/
theorem unsort (τ : Fin 5120 → Fin 5120) (hτ : Function.Bijective τ) (idx : S5120.Idx → BitVec 32) (y : FVec Ideal S5120 .f32)
    (h : ∀ k, idx (ix1 k) = BitVec.ofNat 32 (τ k).val) (p : Fin 5120) :
    (Host.unstableSort2 S5120 0 (comparator_i32_f32_d0 (F := Ideal)) idx y).2 (ix1 (τ p)) = y (ix1 p) := by
  have along (q k : Fin 5120) : Shape.Idx.along (s := S5120) (ix1 q) (0 : Fin 1) k = ix1 k := by
    funext d
    obtain rfl : d = (0 : Fin 1) := Subsingleton.elim (α := Fin 1) _ _
    exact Function.update_self ..
  have cmp (k k' : Fin 5120) : comparator_i32_f32_d0 (F := Ideal) (idx (ix1 k), y (ix1 k)) (idx (ix1 k'), y (ix1 k')) = 1#1 ↔ τ k < τ k' := by
    rw [← slt_ofNat, ← h, ← h]; rfl
  have e : (fun k k' => comparator_i32_f32_d0 (F := Ideal) (idx (ix1 k), y (ix1 k)) (idx (ix1 k'), y (ix1 k')) == 1#1)
      = fun k k' => decide (τ k < τ k') := by
    funext k k'
    rw [Bool.eq_iff_iff, beq_iff_eq, decide_eq_true_iff]
    exact cmp k k'
  have back : sortedFrom (unstableBefore S5120 0 (comparator_i32_f32_d0 (F := Ideal)) fun k : Fin 5120 => (idx (ix1 k), y (ix1 k))) (τ p) = p := by
    rw [sortedFrom_unstableBefore_eq _ _ _ _ fun k k' hk => by
      rw [cmp, cmp]; exact lt_or_gt_of_ne fun e => hk (hτ.1 e)]
    rw [e, sortedFrom_undo τ hτ p]
  show y (Shape.Idx.along (s := S5120) (ix1 (τ p)) (0 : Fin 1) (sortedFrom (unstableBefore S5120 0 (comparator_i32_f32_d0 (F := Ideal))
    fun k : Fin 5120 => (idx (Shape.Idx.along (s := S5120) (ix1 (τ p)) (0 : Fin 1) k), y (Shape.Idx.along (s := S5120) (ix1 (τ p)) (0 : Fin 1) k))) (τ p))) = _
  refine (congrArg y (along _ _)).trans ?_
  simp only [along]
  exact congrArg (fun q => y (ix1 q)) back

variable (m : (ℓ : Loc nD τ sig) → Buf (Elt Ideal) ℓ) (c : Dev nD)

/-- What the buffers hold right after the call. -/
def called : Valuation τ sig (Elt Ideal) :=
  Pipeline.withArrays spec0 c (V0 m c) fun w => (dats m 0 c).arrAt w (cfg0 (F := Ideal)).N

theorem called_out : called m c (Proc.devRef .tc main_v19) = kept m c :=
  (Pipeline.withArrays_arr spec0 winFacts0.arr_inj c (V0 m c) _ (4 : Fin 5)).trans (arr_out m c)

theorem called_idx : called m c (Proc.devRef .tc main_v14_5) = sorted (boxes m c) (scores m c) (iotaInDim S5120 32 0) :=
  (Pipeline.withArrays_of_ne _ c _ _ main_v14_5 (by decide)).trans (V_idx m c)

theorem called_scores : called m c (Proc.devRef .tc main_arg1) = scores m c :=
  (Pipeline.withArrays_of_ne _ c _ _ main_arg1 (by decide)).trans (V_arg m c main_arg1 (.inr rfl))

/-- The kept row, sorted back. -/
def back : FVec Ideal S5120 .f32 :=
  (Host.unstableSort2 S5120 0 (comparator_i32_f32_d0 (F := Ideal)) (sorted (boxes m c) (scores m c) (iotaInDim S5120 32 0))
    (shapeCast S5120 (kept m c) shapeCasts_S40x128_S5120)).2

/-- The second result: where the kept row is positive. -/
def mask : S5000.Idx → BitVec 1 :=
  extractStridedSlice S5000 ![0] (cmpf .ogt (back m c) (broadcastInDim S5120 ![] bcast_S_S5120 (constant (F := Ideal) S_ .f32 0x00000000#32)))
    slices_S5120_S5000_0

theorem final_mask : final m c main_v24 = mask m c := by
  have h : final m c main_v24 = StableHlo.after hostOps1 (called m c) (Proc.devRef .tc main_v24) := by
    unfold final Pipeline.afterTail₀ called
    simp only [List.flatten_cons, List.flatten_nil, List.append_nil]
  rw [h]
  have h1 := called_out m c
  have h2 := called_idx m c
  unfold mask back
  rw [← h1, ← h2]
  generalize called m c = W
  after_reads_simp
  rfl

theorem final_masked : final m c main_v26 = mulf (scores m c) (uitofp .f32 (mask m c)) := by
  have h : final m c main_v26 = StableHlo.after hostOps1 (called m c) (Proc.devRef .tc main_v26) := by
    unfold final Pipeline.afterTail₀ called
    simp only [List.flatten_cons, List.flatten_nil, List.append_nil]
  rw [h]
  have h1 := called_out m c
  have h2 := called_idx m c
  have h3 := called_scores m c
  rw [← h3]
  unfold mask back
  rw [← h1, ← h2]
  generalize called m c = W
  after_reads_simp
  rfl

theorem back_apply (i : Fin 5000) :
    back m c (ix1 ((order (sc m c) i).castLE (by decide))) = ind (rowX1 m c) (rowY1 m c) (rowX2 m c) (rowY2 m c) i.val := by
  have h := unsort (place (boxes m c) (scores m c)) (place_bijective _ _) (sorted (boxes m c) (scores m c) (iotaInDim S5120 32 0))
    (shapeCast S5120 (kept m c) shapeCasts_S40x128_S5120) (fun k => (sorted_apply _ _ _ k).trans rfl) (i.castLE (by decide))
  rw [place_order] at h
  refine h.trans ?_
  unfold kept
  generalize rowX1 m c = X1
  generalize rowY1 m c = Y1
  generalize rowX2 m c = X2
  generalize rowY2 m c = Y2
  clear h
  have hi := i.isLt
  unfold outAt
  pointwise
  exact congrArg (ind X1 Y1 X2 Y2) (Nat.div_add_mod _ _)

/-- The mask says of a box whether it was chosen. -/
theorem mask_iff (i : Fin 5000) : mask m c (ix1 (order (sc m c) i)) = 1#1 ↔ Chosen (bx m c) (sc m c) i.val := by
  have h := back_apply m c i
  rw [← over_chosen m c i.val i.isLt]
  unfold mask
  generalize back m c = B at h ⊢
  have e : (extractStridedSlice S5000 ![0] (cmpf .ogt B (broadcastInDim S5120 ![] bcast_S_S5120 (constant (F := Ideal) S_ .f32 0x00000000#32)))
      slices_S5120_S5000_0 (ix1 (order (sc m c) i)) : BitVec 1) = Ideal.cmp .ogt (B (ix1 ((order (sc m c) i).castLE (by decide)))) 0 := by
    generalize order (sc m c) i = j
    pointwise
    rfl
  rw [e, h]
  unfold ind
  split_ifs with hk <;> simp [Ideal.cmp, hk]

end Cert.Proof.K

end
-- ==== Proof.R.Values.lean ====
/-
  The reference's values, as functions of the boxes and the scores: the boxes in order, the overlap test of every pair, and
  what one trip of its loop does to the row of kept boxes.
-/
module

public import proofs.«01_k».proof.Proof.R.Frame
public import proofs.«01_k».proof.Proof.Order
public import Idealize.ShloMosaic.Lib.StableHlo.ReadAt
public import Idealize.ShloMosaic.Lib.Pointwise
public import Idealize.ShloMosaic.Lib.DynamicIndex
public import Idealize.ShloMosaic.Lib.Routing.Ops
public import Idealize.ShloMosaic.Lib.Routing.OpsOne
public import Idealize.ShloMosaic.Lib.Routing.OpsSet
public import Idealize.ShloMosaic.Lib.Routing.OpsOrder

@[expose] public section

noncomputable section

namespace Cert.Proof.R

open Cert.ReferenceIdeal Cert.ReferenceIdeal.Gen Cert.ReferenceIdeal.Value Cert.Proof
open Idealize.ShloMosaic
open Idealize.ShloMosaic.TcCoe

set_option maxRecDepth 16384

/-- The library's two spellings of an index. -/
theorem one_eq {n : ℕ} (a : Fin n) : (ValueIdx.ix1 a : (⟨1, ![n]⟩ : Shape).Idx) = ix1 a := by
  funext d
  fin_cases d
  rfl
theorem two_eq {n k : ℕ} (a : Fin n) (b : Fin k) : (ValueIdx.ix2 a b : (⟨2, ![n, k]⟩ : Shape).Idx) = ix2 a b := by
  funext d
  fin_cases d <;> rfl

/-- A small word is not negative. -/
theorem slt_zero {k : ℕ} (hk : k < 5000) : (IntOp.cmpi .slt (BitVec.ofNat 32 k) 0#32 : BitVec 1) = 0#1 := by
  have h := StableHlo.Predicate.toInt_ofNat_small k (by omega)
  have h0 : ¬(k : ℤ) < 0 := by omega
  simp [IntOp.cmpi, BitVec.slt, h, h0]

/-! ### The boxes in order -/

/-- The order, as words. -/
def perm (s : FVec Ideal S5000 .f32) : S5000.Idx → BitVec 32 :=
  (Host.sort2 S5000 0 (comparator_f32_i32_d0 (F := Ideal)) (Host.negf s) (iotaInDim S5000 32 0)).2

/-- The second of two things sorted together, read at a place. -/
theorem sort2_apply {α β : Type} (cmp : α × β → α × β → BitVec 1) (x : S5000.Idx → α) (y : S5000.Idx → β) (i : Fin 5000) :
    (Host.sort2 S5000 0 cmp x y).2 (ix1 i)
      = y (ix1 (sortedFrom (fun k k' : Fin 5000 => cmp (x (ix1 k), y (ix1 k)) (x (ix1 k'), y (ix1 k')) == 1#1) i)) := by
  have along (q k : Fin 5000) : Shape.Idx.along (s := S5000) (ix1 q) (0 : Fin 1) k = ix1 k := by
    funext d
    obtain rfl : d = (0 : Fin 1) := Subsingleton.elim (α := Fin 1) _ _
    exact Function.update_self ..
  show y (Shape.Idx.along (s := S5000) (ix1 i) (0 : Fin 1) (sortedFrom (fun k k' : Fin 5000 =>
    cmp (x (Shape.Idx.along (s := S5000) (ix1 i) (0 : Fin 1) k), y (Shape.Idx.along (s := S5000) (ix1 i) (0 : Fin 1) k))
      (x (Shape.Idx.along (s := S5000) (ix1 i) (0 : Fin 1) k'), y (Shape.Idx.along (s := S5000) (ix1 i) (0 : Fin 1) k')) == 1#1) i)) = _
  refine (congrArg y (along _ _)).trans ?_
  simp only [along]
  rfl

theorem before_iff (s : FVec Ideal S5000 .f32) (y : S5000.Idx → BitVec 32) (k k' : Fin 5000) :
    (comparator_f32_i32_d0 (F := Ideal) (Host.negf s (ix1 k), y (ix1 k)) (Host.negf s (ix1 k'), y (ix1 k')) == 1#1)
      = decide (-(s (ix1 k) : EReal) < -(s (ix1 k') : EReal)) := by
  rw [Bool.eq_iff_iff, beq_iff_eq, decide_eq_true_iff]
  exact key_lt _ _ _ _ _ _

theorem perm_apply (s : FVec Ideal S5000 .f32) (i : Fin 5000) :
    perm s (ix1 i) = BitVec.ofNat 32 (order (fun i => s (ix1 i)) i).val := by
  unfold perm order
  rw [sort2_apply]
  simp only [before_iff]
  rfl

/-- An index that is not negative is read as it stands. -/
def column (p : S5000.Idx → BitVec 32) : S5000x1.Idx → BitVec 32 :=
  broadcastInDim S5000x1 ![0] bcast_S5000_S5000x1_0
    (select (cmpi .slt p (broadcastInDim S5000 ![] bcast_S_S5000 (constantI S_ 32 0#32)))
      (addi p (broadcastInDim S5000 ![] bcast_S_S5000 (constantI S_ 32 5000#32))) p)

theorem column_apply (p : S5000.Idx → BitVec 32) (i : Fin 5000) (k : ℕ) (hk : k < 5000) (h : p (ix1 i) = BitVec.ofNat 32 k) :
    column p (ix2 i 0) = BitVec.ofNat 32 k := by
  unfold column
  pointwise
  rw [h, slt_zero hk]
  rfl

/-- The boxes in order. -/
def inOrder (b : FVec Ideal S5000x4 .f32) (s : FVec Ideal S5000 .f32) : FVec Ideal S5000x4 .f32 :=
  Host.gather gather_S5000x4_S5000x1_S5000x4_1_0_n_n_0_1_14 b (column (perm s))

theorem inOrder_apply (b : FVec Ideal S5000x4 .f32) (s : FVec Ideal S5000 .f32) (i : Fin 5000) (q : Fin 4) :
    inOrder b s (ix2 i q) = b (ix2 (order (fun i => s (ix1 i)) i) q) := by
  have h := Routing.gather_row gather_S5000x4_S5000x1_S5000x4_1_0_n_n_0_1_14 rfl rfl rfl rfl rfl b (column (perm s)) i q
    (order (fun i => s (ix1 i)) i)
    ((congrArg _ (two_eq i (0 : Fin 1))).trans (column_apply (perm s) i _ (Fin.isLt _) (perm_apply s i))) (by norm_num)
  rw [two_eq, two_eq] at h
  exact h

/-! ### The overlap ratio of every pair -/

section Pair

variable (g : FVec Ideal S5000x4 .f32)

def c0 : FVec Ideal S5000 .f32 := shapeCast S5000 (extractStridedSlice S5000x1 ![0, 0] g slices_S5000x4_S5000x1_0_0) shapeCasts_S5000x1_S5000
def c1 : FVec Ideal S5000 .f32 := shapeCast S5000 (extractStridedSlice S5000x1 ![0, 1] g slices_S5000x4_S5000x1_0_1) shapeCasts_S5000x1_S5000
def c2 : FVec Ideal S5000 .f32 := shapeCast S5000 (extractStridedSlice S5000x1 ![0, 2] g slices_S5000x4_S5000x1_0_2) shapeCasts_S5000x1_S5000
def c3 : FVec Ideal S5000 .f32 := shapeCast S5000 (extractStridedSlice S5000x1 ![0, 3] g slices_S5000x4_S5000x1_0_3) shapeCasts_S5000x1_S5000

theorem c0_apply (i : Fin 5000) : c0 g (ix1 i) = g (ix2 i 0) := by unfold c0; pointwise
theorem c1_apply (i : Fin 5000) : c1 g (ix1 i) = g (ix2 i 1) := by unfold c1; pointwise
theorem c2_apply (i : Fin 5000) : c2 g (ix1 i) = g (ix2 i 2) := by unfold c2; pointwise
theorem c3_apply (i : Fin 5000) : c3 g (ix1 i) = g (ix2 i 3) := by unfold c3; pointwise

/-- A value per box, by the pair's first box, and by its second. -/
def down (v : FVec Ideal S5000 .f32) : FVec Ideal S5000x5000 .f32 :=
  broadcastInDim S5000x5000 ![0, 1] bcast_S5000x1_S5000x5000_0_1 (broadcastInDim S5000x1 ![0] bcast_S5000_S5000x1_0 v)
def across (v : FVec Ideal S5000 .f32) : FVec Ideal S5000x5000 .f32 :=
  broadcastInDim S5000x5000 ![0, 1] bcast_S1x5000_S5000x5000_0_1 (broadcastInDim S1x5000 ![1] bcast_S5000_S1x5000_1 v)

theorem down_apply (v : FVec Ideal S5000 .f32) (j k : Fin 5000) : down v (ix2 j k) = v (ix1 j) := by unfold down; pointwise
theorem across_apply (v : FVec Ideal S5000 .f32) (j k : Fin 5000) : across v (ix2 j k) = v (ix1 k) := by unfold across; pointwise

def flat (x : BitVec 32) : FVec Ideal S5000x5000 .f32 := broadcastInDim S5000x5000 ![] bcast_S_S5000x5000 (constant (F := Ideal) S_ .f32 x)

theorem flat_apply (x : BitVec 32) (j k : Fin 5000) : flat x (ix2 j k) = Ideal.ofBits .f32 x := by unfold flat; pointwise

/-- The common area, and the ratio. -/
def common : FVec Ideal S5000x5000 .f32 :=
  mulf (maximumf (subf (minimumf (down (c2 g)) (across (c2 g))) (maximumf (down (c0 g)) (across (c0 g)))) (flat 0x00000000#32))
    (maximumf (subf (minimumf (down (c3 g)) (across (c3 g))) (maximumf (down (c1 g)) (across (c1 g)))) (flat 0x00000000#32))
def sizes : FVec Ideal S5000 .f32 := mulf (subf (c2 g) (c0 g)) (subf (c3 g) (c1 g))
def ratio : FVec Ideal S5000x5000 .f32 :=
  Host.divf (common g) (addf (subf (addf (down (sizes g)) (across (sizes g))) (common g)) (flat 0x3089705F#32))

theorem ratio_hits (j k : Fin 5000) :
    (Ideal.ofBits .f32 0x3F000000#32 : EReal) < ratio g (ix2 j k) ↔
      Hits (g (ix2 j 0)) (g (ix2 j 1)) (g (ix2 j 2)) (g (ix2 j 3)) (g (ix2 k 0)) (g (ix2 k 1)) (g (ix2 k 2)) (g (ix2 k 3)) := by
  have zero : Ideal.ofBits FTy.f32 0x00000000#32 = 0 := by simp [Ideal.ofBits, Ideal.ieee]
  have e : ratio g (ix2 j k) = Ideal.div (common g (ix2 j k))
    (((sizes g (ix1 j) : EReal) + sizes g (ix1 k)) - common g (ix2 j k) + Ideal.ofBits .f32 0x3089705F#32) := by
    rw [← flat_apply _ j k, ← down_apply (sizes g) j k, ← across_apply (sizes g) j k]; rfl
  have e' : common g (ix2 j k) = (max (min (c2 g (ix1 j) : EReal) (c2 g (ix1 k)) - max (c0 g (ix1 j) : EReal) (c0 g (ix1 k))) 0
      * max (min (c3 g (ix1 j) : EReal) (c3 g (ix1 k)) - max (c1 g (ix1 j) : EReal) (c1 g (ix1 k))) 0 : EReal) := by
    rw [← zero, ← flat_apply _ j k]
    simp only [← down_apply _ j k, ← across_apply _ j k]
    rfl
  have e'' (i : Fin 5000) : sizes g (ix1 i) = ((c2 g (ix1 i) : EReal) - c0 g (ix1 i)) * ((c3 g (ix1 i) : EReal) - c1 g (ix1 i)) := rfl
  rw [e, e', e'', e'']
  simp only [c0_apply, c1_apply, c2_apply, c3_apply]
  rfl

end Pair

/-! ### One trip -/

section Trip

/-- The trip's number as the slice's start. -/
def start (n : S_.Idx → BitVec 32) : Fin 2 → ℤ := fun k =>
  (((![select (cmpi .slt (constantI S_ 32 0#32) (constantI S_ 32 0#32)) (addi (constantI S_ 32 0#32) (constantI S_ 32 5000#32)) (constantI S_ 32 0#32),
    select (cmpi .slt (id n) (constantI S_ 32 0#32)) (addi (id n) (constantI S_ 32 5000#32)) (id n)] : Fin 2 → S_.Idx → BitVec 32) k)
      (Shape.Idx.first h_S_)).toInt

/-- The pairs whose second box is the trip's. -/
def pairs (q : FVec Ideal S5000x5000 .f32) (n : S_.Idx → BitVec 32) : FVec Ideal S5000 .f32 :=
  shapeCast S5000 (Host.dynamicSlice S5000x1 q (start n) sliceFits_S5000x5000_S5000x1) shapeCasts_S5000x1_S5000

/-- The boxes that suppress the trip's box. -/
def against (q : FVec Ideal S5000x5000 .f32) (io : S5000.Idx → BitVec 32) (n : S_.Idx → BitVec 32) (keep : S5000.Idx → BitVec 1) :
    S5000.Idx → BitVec 1 :=
  andi (andi (cmpf .ogt (pairs q n) (broadcastInDim S5000 ![] bcast_S_S5000 (constant (F := Ideal) S_ .f32 0x3F000000#32))) keep)
    (cmpi .slt io (broadcastInDim S5000 ![] bcast_S_S5000 (id n)))

/-- Whether none does. -/
def free (q : FVec Ideal S5000x5000 .f32) (io : S5000.Idx → BitVec 32) (n : S_.Idx → BitVec 32) (keep : S5000.Idx → BitVec 1) :
    S_.Idx → BitVec 1 :=
  noti (Host.reduce IntOp.ori (against q io n keep) (constantI S_ 1 0#1) reducesTo_S5000_S_d0 h_S_)

/-- Where the trip writes. -/
def spot (n : S_.Idx → BitVec 32) : S1.Idx → BitVec 32 :=
  broadcastInDim S1 ![] bcast_S_S1 (id (select (cmpi .slt n (constantI S_ 32 0#32)) (addi n (constantI S_ 32 5000#32)) n))

/-- The row of kept boxes after the trip. -/
def trip (q : FVec Ideal S5000x5000 .f32) (io : S5000.Idx → BitVec 32) (n : S_.Idx → BitVec 32) (keep : S5000.Idx → BitVec 1) :
    S5000.Idx → BitVec 1 :=
  id (Host.scatter scatter_S5000_S1_S__n_0_0_0 (fun _ b => b) keep (spot n) (free q io n keep))

variable (q : FVec Ideal S5000x5000 .f32) (io : S5000.Idx → BitVec 32) (keep : S5000.Idx → BitVec 1)
  (hio : ∀ j : Fin 5000, io (ix1 j) = BitVec.ofNat 32 j.val) (k : Fin 5000)

theorem slt_iff (a b : Fin 5000) : (IntOp.cmpi .slt (BitVec.ofNat 32 a.val) (BitVec.ofNat 32 b.val) : BitVec 1) = 1#1 ↔ a < b := by
  have ha := StableHlo.Predicate.toInt_ofNat_small a.val (by omega)
  have hb := StableHlo.Predicate.toInt_ofNat_small b.val (by omega)
  simp only [IntOp.cmpi, BitVec.slt, ha, hb]
  by_cases h : a < b <;> simp [h] <;> omega

theorem start_eq : ∀ a, start (fun _ => BitVec.ofNat 32 k.val) a = ((![0, k.val] : Fin 2 → ℕ) a : ℤ) := by
  intro a
  fin_cases a
  · rfl
  · show (Scalar.select (IntOp.cmpi .slt (BitVec.ofNat 32 k.val) 0#32) _ (BitVec.ofNat 32 k.val)).toInt = (k.val : ℤ)
    rw [slt_zero k.isLt]
    exact StableHlo.Predicate.toInt_ofNat_small k.val (by omega)

theorem slice_at : S5000x5000.Slices ![0, k.val] S5000x1 :=
  ⟨rfl, fun a => by
    have hk := k.isLt
    fin_cases a
    · show 0 + 5000 ≤ 5000; omega
    · show k.val + 1 ≤ 5000; omega⟩

theorem pairs_apply (j : Fin 5000) : pairs q (fun _ => BitVec.ofNat 32 k.val) (ix1 j) = q (ix2 j k) := by
  unfold pairs
  rw [Host.dynamicSlice_eq_extractStridedSlice S5000x1 q _ ![0, k.val] _ (slice_at k) (start_eq k)]
  pointwise

include hio in
theorem against_iff (j : Fin 5000) : against q io (fun _ => BitVec.ofNat 32 k.val) keep (ix1 j) = 1#1 ↔
    j < k ∧ keep (ix1 j) = 1#1 ∧ (Ideal.ofBits .f32 0x3F000000#32 : EReal) < q (ix2 j k) := by
  have e : against q io (fun _ => BitVec.ofNat 32 k.val) keep (ix1 j)
      = IntOp.andi (IntOp.andi (Ideal.cmp .ogt (pairs q (fun _ => BitVec.ofNat 32 k.val) (ix1 j)) (Ideal.ofBits .f32 0x3F000000#32)) (keep (ix1 j)))
        (IntOp.cmpi .slt (io (ix1 j)) (BitVec.ofNat 32 k.val)) := rfl
  have both : ∀ a b : BitVec 1, IntOp.andi a b = 1#1 ↔ a = 1#1 ∧ b = 1#1 := by decide
  have above (x y : EReal) : Ideal.cmp .ogt x y = 1#1 ↔ y < x := by
    by_cases h : y < x <;> simp [Ideal.cmp, h]
  rw [e, both, both, above, pairs_apply, hio, slt_iff]
  tauto

include hio in
theorem free_iff : free q io (fun _ => BitVec.ofNat 32 k.val) keep ix0 = 1#1 ↔
    ∀ j : Fin 5000, j < k → keep (ix1 j) = 1#1 → ¬(Ideal.ofBits .f32 0x3F000000#32 : EReal) < q (ix2 j k) := by
  have h := fun j => against_iff q io keep hio k j
  unfold free
  generalize against q io (fun _ => BitVec.ofNat 32 k.val) keep = a at h
  have flip : ∀ b : BitVec 1, ~~~b = 1#1 ↔ ¬b = 1#1 := by decide
  pointwise
  rw [flip, Routing.fold_ori]
  constructor
  · intro hn j hj hk ht
    exact hn ⟨j, Finset.mem_univ _, (h j).mpr ⟨hj, hk, ht⟩⟩
  · rintro hn ⟨j, _, hj⟩
    obtain ⟨h1, h2, h3⟩ := (h j).mp hj
    exact hn j h1 h2 h3

theorem spot_eq : (spot (fun _ => BitVec.ofNat 32 k.val) (ix1 0)).toInt = (k.val : ℤ) := by
  show (Scalar.select (IntOp.cmpi .slt (BitVec.ofNat 32 k.val) 0#32) _ (BitVec.ofNat 32 k.val)).toInt = (k.val : ℤ)
  rw [slt_zero k.isLt]
  exact StableHlo.Predicate.toInt_ofNat_small k.val (by omega)

/-- A trip writes the entry of its own box alone. -/
theorem trip_apply (n : S_.Idx → BitVec 32) (hn : (spot n (ix1 0)).toInt = (k.val : ℤ)) (x : Fin 5000) :
    trip q io n keep (ix1 x) = if x = k then free q io n keep ix0 else keep (ix1 x) := by
  have lands : ∀ j, scatter_S5000_S1_S__n_0_0_0.resultIdx? j (spot n) = some (ix1 x) ↔ x = k := by
    intro j
    have h := Routing.lands_one scatter_S5000_S1_S__n_0_0_0 rfl rfl (spot n) k ((congrArg (fun i => (spot n i).toInt) (one_eq (0 : Fin 1))).trans hn) x
    rw [one_eq] at h
    rw [← h]
    have : j = ValueIdx.ix0 := funext fun a => a.elim0
    rw [this]
  show Host.scatter scatter_S5000_S1_S__n_0_0_0 (fun _ b => b) keep (spot n) (free q io n keep) (ix1 x) = _
  split_ifs with hx
  · exact Routing.scatter_set_hit _ _ _ _ _ _ (fun j _ => congrArg _ (funext fun a => a.elim0)) ix0 ((lands ix0).mpr hx)
  · exact Routing.scatter_set_miss _ _ _ _ _ fun j hj => hx ((lands j).mp hj)

end Trip

end Cert.Proof.R

end
-- ==== Proof.R.Result.lean ====
/-
  The reference's results: the loop settles the greedy rule box by box in order, and the scatter after it gives each box's
  verdict to the box itself.
-/
module

public import proofs.«01_k».proof.Proof.R.Values

@[expose] public section

noncomputable section

namespace Cert.Proof.R

open Cert.ReferenceIdeal Cert.ReferenceIdeal.Gen Cert.ReferenceIdeal.Value Cert.Proof
open Idealize.ShloMosaic
open Idealize.ShloMosaic.TcCoe

set_option maxRecDepth 16384

variable (m : (ℓ : Loc nD τ sig) → Buf (Elt Ideal) ℓ) (c : Dev nD)

abbrev boxes : FVec Ideal S5000x4 .f32 := m ((c : Thread nD τ).loc main_arg0)
abbrev scores : FVec Ideal S5000 .f32 := m ((c : Thread nD τ).loc main_arg1)
abbrev bx (i : Fin 5000) (k : Fin 4) : EReal := boxes m c (ix2 i k)
abbrev sc (i : Fin 5000) : EReal := scores m c (ix1 i)

/-- What the loop starts from. -/
abbrev entry : Valuation τ sig (Elt Ideal) := StableHlo.entryContents preI m c

/-- What the buffers hold once the order is known. -/
def sortedV : Valuation τ sig (Elt Ideal) := StableHlo.after hostOps0_1 (StableHlo.after hostOps0 fun b => m (c, b))

theorem entry_eq : entry m c = StableHlo.after hostOps0_2 (sortedV m c) := rfl

theorem sortedV_perm : sortedV m c (Proc.devRef .tc main_v1) = perm (scores m c) := by
  unfold sortedV
  after_reads_simp
  rfl

theorem sortedV_boxes : sortedV m c (Proc.devRef .tc main_arg0) = boxes m c := by
  unfold sortedV
  after_reads_simp

theorem entry_perm : entry m c (Proc.devRef .tc main_v1) = perm (scores m c) := by
  rw [entry_eq, ← sortedV_perm]
  generalize sortedV m c = W
  exact StableHlo.after_of_writes_sub hostOps0_2 W hostOps0_2_writes (by decide +kernel)

set_option maxHeartbeats 4000000 in
theorem entry_ratio : entry m c (Proc.devRef .tc main_v74_0) = ratio (inOrder (boxes m c) (scores m c)) := by
  rw [entry_eq]
  have h0 := sortedV_boxes m c
  have h1 := sortedV_perm m c
  unfold inOrder
  rw [← h0, ← h1]
  generalize sortedV m c = W
  after_reads_simp
  rfl

theorem entry_iota : entry m c (Proc.devRef .tc main_v74_1) = iotaInDim S5000 32 0 := by
  rw [entry_eq]
  generalize sortedV m c = W
  after_reads_simp
  rfl

theorem entry_count : entry m c (Proc.devRef .tc main_v74_3) = fun _ => BitVec.ofNat 32 0 := by
  rw [entry_eq]
  generalize sortedV m c = W
  after_reads_simp
  rfl

theorem entry_keep : entry m c (Proc.devRef .tc main_v74_4) = fun _ => 0#1 := by
  rw [entry_eq]
  generalize sortedV m c = W
  after_reads_simp
  rfl

/-! ### The loop -/

theorem step_keep (W : Valuation τ sig (Elt Ideal)) :
    STEP W (Proc.devRef .tc main_v74_4) = trip (W (Proc.devRef .tc main_v74_0)) (W (Proc.devRef .tc main_v74_1))
      (W (Proc.devRef .tc main_v74_3)) (W (Proc.devRef .tc main_v74_4)) := (STEP_main_v74_4 W).trans rfl

/-- What the loop holds after `k` trips. -/
def At (k : ℕ) (W : Valuation τ sig (Elt Ideal)) : Prop :=
  W (Proc.devRef .tc main_v74_0) = ratio (inOrder (boxes m c) (scores m c)) ∧
  W (Proc.devRef .tc main_v74_1) = iotaInDim S5000 32 0 ∧
  W (Proc.devRef .tc main_v74_3) = (fun _ => BitVec.ofNat 32 k) ∧
  ∀ x : Fin 5000, W (Proc.devRef .tc main_v74_4) (ix1 x) = 1#1 ↔ x.val < k ∧ Chosen (bx m c) (sc m c) x.val

/-- The test on the ratio is the overlap test on the boxes in order. -/
theorem ratio_sup (j k : Fin 5000) :
    (Ideal.ofBits .f32 0x3F000000#32 : EReal) < ratio (inOrder (boxes m c) (scores m c)) (ix2 j k) ↔ Sup (bx m c) (sc m c) j.val k.val := by
  rw [ratio_hits]
  simp only [inOrder_apply]
  unfold Sup
  exact ⟨fun h => ⟨j.isLt, k.isLt, h⟩, fun ⟨_, _, h⟩ => h⟩

theorem trip_chosen (k : Fin 5000) (keep : S5000.Idx → BitVec 1)
    (h : ∀ x : Fin 5000, keep (ix1 x) = 1#1 ↔ x.val < k.val ∧ Chosen (bx m c) (sc m c) x.val) (x : Fin 5000) :
    trip (ratio (inOrder (boxes m c) (scores m c))) (iotaInDim S5000 32 0) (fun _ => BitVec.ofNat 32 k.val) keep (ix1 x) = 1#1
      ↔ x.val < k.val + 1 ∧ Chosen (bx m c) (sc m c) x.val := by
  rw [trip_apply _ _ _ k _ (spot_eq k)]
  split_ifs with hx
  · subst hx
    rw [free_iff _ _ _ (fun _ => rfl)]
    unfold Chosen
    rw [kept_iff]
    constructor
    · intro hf
      refine ⟨Nat.lt_succ_self _, fun j hj hk hs => ?_⟩
      have hj' : j < 5000 := hj.trans x.isLt
      exact hf ⟨j, hj'⟩ hj ((h ⟨j, hj'⟩).mpr ⟨hj, hk⟩) ((ratio_sup m c ⟨j, hj'⟩ x).mpr hs)
    · rintro ⟨_, hf⟩ j hj hk ht
      exact hf j.val hj ((h j).mp hk).2 ((ratio_sup m c j x).mp ht)
  · rw [h]
    have : x.val ≠ k.val := fun e => hx (Fin.ext e)
    constructor
    · rintro ⟨h1, h2⟩; exact ⟨by omega, h2⟩
    · rintro ⟨h1, h2⟩; exact ⟨by omega, h2⟩

theorem at_step (k : ℕ) (hk : k < 5000) (W : Valuation τ sig (Elt Ideal)) (h : At m c k W) : At m c (k + 1) (STEP W) := by
  obtain ⟨h0, h1, h3, h4⟩ := h
  refine ⟨(STEP_main_v74_0 W).trans h0, (STEP_main_v74_1 W).trans h1, ?_, fun x => ?_⟩
  · rw [STEP_main_v74_3]
    unfold step_main_v74_3
    rw [h3]
    funext i
    exact (BitVec.ofNat_add _ _).symm
  · rw [step_keep, h0, h1, h3]
    exact trip_chosen m c ⟨k, hk⟩ _ h4 x

theorem at_iterate : ∀ k, k ≤ 5000 → At m c k (STEP^[k] (entry m c)) := by
  intro k
  induction k with
  | zero =>
    intro _
    refine ⟨entry_ratio m c, entry_iota m c, entry_count m c, fun x => ?_⟩
    show entry m c (Proc.devRef .tc main_v74_4) (ix1 x) = 1#1 ↔ _
    rw [entry_keep]
    exact ⟨fun h => absurd h (show ¬(0#1 : BitVec 1) = 1#1 by decide), fun h => absurd h.1 (Nat.not_lt_zero _)⟩
  | succ k ih =>
    intro hk
    rw [Function.iterate_succ_apply']
    exact at_step m c k (by omega) _ (ih (by omega))

/-! ### After the loop -/

/-- What the buffers hold after the loop. -/
def looped : Valuation τ sig (Elt Ideal) := StableHlo.after condOps (atK m 5000 c)

theorem looped_perm : looped m c (Proc.devRef .tc main_v1) = perm (scores m c) :=
  (StableHlo.after_of_writes_sub condOps _ condOps_writes (by decide +kernel)).trans
    ((trips_keep m c (by decide +kernel) (by decide +kernel) 5000).trans (entry_perm m c))

theorem looped_scores : looped m c (Proc.devRef .tc main_arg1) = scores m c :=
  (StableHlo.after_of_writes_sub condOps _ condOps_writes (by decide +kernel)).trans
    ((trips_keep m c (by decide +kernel) (by decide +kernel) 5000).trans (entry_arg m c main_arg1 (.inr rfl)))

theorem looped_keep (x : Fin 5000) : looped m c (Proc.devRef .tc main_v74_4) (ix1 x) = 1#1 ↔ Chosen (bx m c) (sc m c) x.val := by
  have h : looped m c (Proc.devRef .tc main_v74_4) = STEP^[5000] (entry m c) (Proc.devRef .tc main_v74_4) :=
    (StableHlo.after_of_writes_sub condOps _ condOps_writes (by decide +kernel)).trans (atK_agree m c 5000 main_v74_4 (by decide))
  rw [h, (at_iterate m c 5000 le_rfl).2.2.2 x]
  exact ⟨fun h => h.2, fun h => ⟨x.isLt, h⟩⟩

/-- Each verdict, given to its box. -/
def spread (p : S5000.Idx → BitVec 32) (keep : S5000.Idx → BitVec 1) : S5000.Idx → BitVec 1 :=
  Host.scatter scatter_S5000_S5000x1_S5000_n_0_0_1 (fun _ b => b) (broadcastInDim S5000 ![] bcast_S_S5000 (constantI S_ 1 0#1)) (column p) keep

theorem spread_apply (s : FVec Ideal S5000 .f32) (keep : S5000.Idx → BitVec 1) (i : Fin 5000) :
    spread (perm s) keep (ix1 (order (fun i => s (ix1 i)) i)) = keep (ix1 i) := by
  unfold spread
  have h := (Routing.scatter_set scatter_S5000_S5000x1_S5000_n_0_0_1 rfl rfl rfl
    (broadcastInDim S5000 ![] bcast_S_S5000 (constantI S_ 1 0#1)) (column (perm s)) keep
    (fun j => if hj : j < 5000 then (order (fun i => s (ix1 i)) ⟨j, hj⟩).val else 0)
    (fun j => by
      rw [dif_pos j.isLt]
      exact (congrArg _ (two_eq j (0 : Fin 1))).trans (column_apply (perm s) j _ (Fin.isLt _) (perm_apply s j)))
    (fun j => by rw [dif_pos j.isLt]; exact (Fin.isLt _).trans (by norm_num))
    (order (fun i => s (ix1 i)) i) (keep (ix1 i))
    (fun j hj => by
      rw [dif_pos j.isLt] at hj
      have := (order_bijective _).1 (Fin.ext hj)
      rw [one_eq]
      exact congrArg (fun q => keep (ix1 q)) this)).1 ⟨i, by rw [dif_pos i.isLt]⟩
  rw [one_eq] at h
  exact h

/-- The second result. -/
def mask : S5000.Idx → BitVec 1 := spread (perm (scores m c)) (looped m c (Proc.devRef .tc main_v74_4))

theorem mask_iff (i : Fin 5000) : mask m c (ix1 (order (sc m c) i)) = 1#1 ↔ Chosen (bx m c) (sc m c) i.val := by
  unfold mask
  rw [← looped_keep]
  exact Iff.of_eq (congrArg (· = 1#1) (spread_apply (scores m c) _ i))

theorem final_mask : StableHlo.finalContents condOps preI bodyI postI 5000 m c (Proc.devRef .tc main_v82) = mask m c := by
  show StableHlo.after hostOps0_3 (looped m c) (Proc.devRef .tc main_v82) = _
  have h := looped_perm m c
  unfold mask
  rw [← h]
  generalize looped m c = W
  after_reads_simp
  rfl

theorem final_masked : StableHlo.finalContents condOps preI bodyI postI 5000 m c (Proc.devRef .tc main_v84)
    = mulf (scores m c) (uitofp .f32 (mask m c)) := by
  show StableHlo.after hostOps0_3 (looped m c) (Proc.devRef .tc main_v84) = _
  have h := looped_perm m c
  have h' := looped_scores m c
  unfold mask
  rw [← h, ← h']
  generalize looped m c = W
  after_reads_simp
  rfl

end Cert.Proof.R

end
-- ==== Proof.Equal.lean ====
/-
  The kernel and the reference compute the same: each says of the `i`-th box in order whether the greedy rule chooses it, and
  every box has a place in the order.
-/
module

public import proofs.«01_k».proof.Proof.K.Result
public import proofs.«01_k».proof.Proof.R.Result

@[expose] public section

noncomputable section

namespace Cert.Proof

open Idealize.ShloMosaic
open Idealize.ShloMosaic.TcCoe
open Idealize.SL.Sem

section Masks

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hb : R.boxes m' c = K.boxes m c) (hs : R.scores m' c = K.scores m c)

include hb hs

theorem mask_eq : R.mask m' c = K.mask m c := by
  funext x
  obtain ⟨p, rfl⟩ : ∃ p : Fin 5000, x = ix1 p := ⟨x 0, by funext d; obtain rfl : d = (0 : Fin 1) := Subsingleton.elim (α := Fin 1) _ _; rfl⟩
  obtain ⟨i, rfl⟩ := (order_bijective (K.sc m c)).2 p
  have hsc : R.sc m' c = K.sc m c := funext fun i => congrFun hs (ix1 i)
  have hbx : R.bx m' c = K.bx m c := funext fun i => funext fun k => congrFun hb (ix2 i k)
  have h := R.mask_iff m' c i
  rw [hsc, hbx] at h
  have bit : ∀ a b : BitVec 1, (a = 1#1 ↔ b = 1#1) → a = b := by decide
  exact bit _ _ (h.trans (K.mask_iff m c i).symm)

theorem masked_eq : mulf (R.scores m' c) (uitofp .f32 (R.mask m' c)) = mulf (K.scores m c) (uitofp .f32 (K.mask m c)) := by
  rw [mask_eq m m' c hb hs, hs]

end Masks

/-- The value claim. -/
theorem algebraic : Cert.algebraic_KernelIdeal_ReferenceIdeal (hKernelIdeal := Cert.KernelIdeal.Gen.facts)
    (hReferenceIdeal := Cert.ReferenceIdeal.Gen.facts) := fun m g m' g' _ heq =>
  ⟨fun c => mulf (K.scores m c) (uitofp .f32 (K.mask m c)), fun c => K.mask m c,
    (θ_run _ _ _).mono (fun r h c =>
      ⟨((h.1 c).2 Cert.KernelIdeal.main_v26 K.rest_v26).trans (K.final_masked m c),
        ((h.1 c).2 Cert.KernelIdeal.main_v24 K.rest_v24).trans (K.final_mask m c),
        ((h.1 c).2 Cert.KernelIdeal.main_arg0 K.rest_arg0).trans (K.final_arg m c _ (.inl rfl)),
        ((h.1 c).2 Cert.KernelIdeal.main_arg1 K.rest_arg1).trans (K.final_arg m c _ (.inr rfl))⟩) (K.run_main m g),
    (θ_run _ _ _).mono (fun r h c =>
      ⟨(h c Cert.ReferenceIdeal.main_v84 rfl).trans ((R.final_masked m' c).trans (masked_eq m m' c (heq c).1 (heq c).2)),
        (h c Cert.ReferenceIdeal.main_v82 rfl).trans ((R.final_mask m' c).trans (mask_eq m m' c (heq c).1 (heq c).2)),
        (h c Cert.ReferenceIdeal.main_arg0 rfl).trans (R.final_arg m' c _ (.inl rfl)),
        (h c Cert.ReferenceIdeal.main_arg1 rfl).trans (R.final_arg m' c _ (.inr rfl))⟩) (Cert.ReferenceIdeal.Value.run_fold m' g')⟩

end Cert.Proof

end
-- ==== Proof.lean ====
/-
  The certificate: the kernel and the reference, over the extended reals, each end faultlessly, the arguments unchanged
  and the counters at zero, and both results are equal.
-/
module

public import proofs.«01_k».proof.Defs
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.K.Frame
public import proofs.«01_k».proof.Proof.R.Frame
public import proofs.«01_k».proof.Proof.Equal

@[expose] public section

noncomputable section

namespace Cert.Proof

open Idealize.ShloMosaic Idealize.SL.Sem

theorem claim : Cert.Claim :=
  ⟨Cert.KernelIdeal.Gen.facts, Cert.ReferenceIdeal.Gen.facts, K.quiescent, R.quiescent, algebraic⟩

end Cert.Proof

end
